-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6_finite_act [hPre_finite_act : Cert.Pre_finite_act.Facts] (m : (ℓ : Loc Cert.Kernel6.nD Cert.Kernel6.τ Cert.Kernel6.sig) → Buf (Elt Bits) ℓ) : Prop :=
  ∀ c : Dev Cert.Kernel6.nD,
    (Cert.Pre_finite_act.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2))) = (fun _ => 1#1)

def Pre_Kernel6Ideal [hPre_finite_act : Cert.Pre_finite_act.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_act.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_act [hPre_finite_act : Cert.Pre_finite_act.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_act.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8_finite_mixer [hPre_finite_mixer : Cert.Pre_finite_mixer.Facts] (m : (ℓ : Loc Cert.Kernel8.nD Cert.Kernel8.τ Cert.Kernel8.sig) → Buf (Elt Bits) ℓ) : Prop :=
  ∀ c : Dev Cert.Kernel8.nD,
    (Cert.Pre_finite_mixer.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7)) (m ((c.tc : Thread Cert.Kernel8.nD Cert.Kernel8.τ).loc Cert.Kernel8.main_arg8)) (m ((c.tc : Thread Cert.Kernel8.nD Cert.Kernel8.τ).loc Cert.Kernel8.main_arg9))) = (fun _ => 1#1)

def Pre_Kernel8Ideal [hPre_finite_mixer : Cert.Pre_finite_mixer.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_mixer.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_mixer [hPre_finite_mixer : Cert.Pre_finite_mixer.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_mixer.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))) = (fun _ => 1#1)

def Pre_Kernel9 (m : (ℓ : Loc Cert.Kernel9.nD Cert.Kernel9.τ Cert.Kernel9.sig) → Buf (Elt Bits) ℓ) : Prop :=
  True

def Pre_Kernel9_finite_tail [hPre_finite_tail : Cert.Pre_finite_tail.Facts] (m : (ℓ : Loc Cert.Kernel9.nD Cert.Kernel9.τ Cert.Kernel9.sig) → Buf (Elt Bits) ℓ) : Prop :=
  ∀ c : Dev Cert.Kernel9.nD,
    (Cert.Pre_finite_tail.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6))) = (fun _ => 1#1)

def Pre_Kernel9Ideal [hPre_finite_tail : Cert.Pre_finite_tail.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_tail.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_tail [hPre_finite_tail : Cert.Pre_finite_tail.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_tail.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10_finite_modulate [hPre_finite_modulate : Cert.Pre_finite_modulate.Facts] (m : (ℓ : Loc Cert.Kernel10.nD Cert.Kernel10.τ Cert.Kernel10.sig) → Buf (Elt Bits) ℓ) : Prop :=
  ∀ c : Dev Cert.Kernel10.nD,
    (Cert.Pre_finite_modulate.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3))) = (fun _ => 1#1)

def Pre_Kernel10Ideal [hPre_finite_modulate : Cert.Pre_finite_modulate.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_modulate.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_modulate [hPre_finite_modulate : Cert.Pre_finite_modulate.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_modulate.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6_pre_finite_act [hKernel6 : Cert.Kernel6.Facts] [hPre_finite_act : Cert.Pre_finite_act.Facts] : Prop :=
  ∀ (m : (ℓ : Loc Cert.Kernel6.nD Cert.Kernel6.τ Cert.Kernel6.sig) → Buf (Elt Bits) ℓ) (g : Dev Cert.Kernel6.nD → PrngReg), Pre_Kernel6_finite_act m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_finite_act : Cert.Pre_finite_act.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_act [hReference6Ideal : Cert.Reference6Ideal.Facts] [hPre_finite_act : Cert.Pre_finite_act.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_act m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8_pre_finite_mixer [hKernel8 : Cert.Kernel8.Facts] [hPre_finite_mixer : Cert.Pre_finite_mixer.Facts] : Prop :=
  ∀ (m : (ℓ : Loc Cert.Kernel8.nD Cert.Kernel8.τ Cert.Kernel8.sig) → Buf (Elt Bits) ℓ) (g : Dev Cert.Kernel8.nD → PrngReg), Pre_Kernel8_finite_mixer m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] [hPre_finite_mixer : Cert.Pre_finite_mixer.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Reference8Ideal_pre_finite_mixer [hReference8Ideal : Cert.Reference8Ideal.Facts] [hPre_finite_mixer : Cert.Pre_finite_mixer.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_mixer m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9_pre_finite_tail [hKernel9 : Cert.Kernel9.Facts] [hPre_finite_tail : Cert.Pre_finite_tail.Facts] : Prop :=
  ∀ (m : (ℓ : Loc Cert.Kernel9.nD Cert.Kernel9.τ Cert.Kernel9.sig) → Buf (Elt Bits) ℓ) (g : Dev Cert.Kernel9.nD → PrngReg), Pre_Kernel9_finite_tail m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] [hPre_finite_tail : Cert.Pre_finite_tail.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite_tail [hReference9Ideal : Cert.Reference9Ideal.Facts] [hPre_finite_tail : Cert.Pre_finite_tail.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_tail m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10_pre_finite_modulate [hKernel10 : Cert.Kernel10.Facts] [hPre_finite_modulate : Cert.Pre_finite_modulate.Facts] : Prop :=
  ∀ (m : (ℓ : Loc Cert.Kernel10.nD Cert.Kernel10.τ Cert.Kernel10.sig) → Buf (Elt Bits) ℓ) (g : Dev Cert.Kernel10.nD → PrngReg), Pre_Kernel10_finite_modulate m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] [hPre_finite_modulate : Cert.Pre_finite_modulate.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_modulate [hReference10Ideal : Cert.Reference10Ideal.Facts] [hPre_finite_modulate : Cert.Pre_finite_modulate.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_modulate m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v8_0) i = v0 c i)
          ∧ (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v8_1) i = v1 c i)
          ∧ (∀ i : (⟨3, ![12, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v8_2) i = v2 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v8_3) i = v3 c i)
          ∧ (∀ i : (⟨2, ![2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v8_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v47) i = v0 c i)
          ∧ (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v48) i = v1 c i)
          ∧ (∀ i : (⟨3, ![12, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v49) i = v2 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v50) i = v3 c i)
          ∧ (∀ i : (⟨2, ![2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v51) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] [hPre_finite_act : Cert.Pre_finite_act.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v82) = v1 c
          ∧ r.2.mem ((c.tc : Thread Cert.Reference7Ideal.nD Cert.Reference7Ideal.τ).loc Cert.Reference7Ideal.main_v83) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_v52) = v4 c
          ∧ r.2.mem ((c.tc : Thread Cert.Reference7Ideal.nD Cert.Reference7Ideal.τ).loc Cert.Reference7Ideal.main_v84) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] [hPre_finite_mixer : Cert.Pre_finite_mixer.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v169) = v0 c
          ∧ r.2.mem ((c.tc : Thread Cert.Reference8Ideal.nD Cert.Reference8Ideal.τ).loc Cert.Reference8Ideal.main_v156) = v1 c
          ∧ r.2.mem ((c.tc : Thread Cert.Reference8Ideal.nD Cert.Reference8Ideal.τ).loc Cert.Reference8Ideal.main_v168) = v2 c
          ∧ r.2.mem ((c.tc : Thread Cert.Reference8Ideal.nD Cert.Reference8Ideal.τ).loc Cert.Reference8Ideal.main_v172) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] [hPre_finite_tail : Cert.Pre_finite_tail.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v105) = v0 c
          ∧ r.2.mem ((c.tc : Thread Cert.Reference9Ideal.nD Cert.Reference9Ideal.τ).loc Cert.Reference9Ideal.main_v93) = v1 c
          ∧ r.2.mem ((c.tc : Thread Cert.Reference9Ideal.nD Cert.Reference9Ideal.τ).loc Cert.Reference9Ideal.main_v104) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] [hPre_finite_modulate : Cert.Pre_finite_modulate.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v64) = v0 c
          ∧ r.2.mem ((c.tc : Thread Cert.Reference10Ideal.nD Cert.Reference10Ideal.τ).loc Cert.Reference10Ideal.main_v73) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v95) = v0 c
          ∧ r.2.mem ((c.tc : Thread Cert.Reference11Ideal.nD Cert.Reference11Ideal.τ).loc Cert.Reference11Ideal.main_v97) = v1 c
          ∧ r.2.mem ((c.tc : Thread Cert.Reference11Ideal.nD Cert.Reference11Ideal.τ).loc Cert.Reference11Ideal.main_v98) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37_0) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_act : Cert.Pre_finite_act.Facts) (hPre_finite_mixer : Cert.Pre_finite_mixer.Facts) (hPre_finite_tail : Cert.Pre_finite_tail.Facts) (hPre_finite_modulate : Cert.Pre_finite_modulate.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6_pre_finite_act (hKernel6 := hKernel6) (hPre_finite_act := hPre_finite_act)
    ∧ quiescent_Kernel6Ideal (hKernel6Ideal := hKernel6Ideal) (hPre_finite_act := hPre_finite_act)
    ∧ quiescent_Reference6Ideal (hReference6Ideal := hReference6Ideal)
    ∧ quiescent_Reference6Ideal_pre_finite_act (hReference6Ideal := hReference6Ideal) (hPre_finite_act := hPre_finite_act)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8_pre_finite_mixer (hKernel8 := hKernel8) (hPre_finite_mixer := hPre_finite_mixer)
    ∧ quiescent_Kernel8Ideal (hKernel8Ideal := hKernel8Ideal) (hPre_finite_mixer := hPre_finite_mixer)
    ∧ quiescent_Reference8Ideal (hReference8Ideal := hReference8Ideal)
    ∧ quiescent_Reference8Ideal_pre_finite_mixer (hReference8Ideal := hReference8Ideal) (hPre_finite_mixer := hPre_finite_mixer)
    ∧ quiescent_Kernel9 (hKernel9 := hKernel9)
    ∧ quiescent_Kernel9_pre_finite_tail (hKernel9 := hKernel9) (hPre_finite_tail := hPre_finite_tail)
    ∧ quiescent_Kernel9Ideal (hKernel9Ideal := hKernel9Ideal) (hPre_finite_tail := hPre_finite_tail)
    ∧ quiescent_Reference9Ideal (hReference9Ideal := hReference9Ideal)
    ∧ quiescent_Reference9Ideal_pre_finite_tail (hReference9Ideal := hReference9Ideal) (hPre_finite_tail := hPre_finite_tail)
    ∧ quiescent_Kernel10 (hKernel10 := hKernel10)
    ∧ quiescent_Kernel10_pre_finite_modulate (hKernel10 := hKernel10) (hPre_finite_modulate := hPre_finite_modulate)
    ∧ quiescent_Kernel10Ideal (hKernel10Ideal := hKernel10Ideal) (hPre_finite_modulate := hPre_finite_modulate)
    ∧ quiescent_Reference10Ideal (hReference10Ideal := hReference10Ideal)
    ∧ quiescent_Reference10Ideal_pre_finite_modulate (hReference10Ideal := hReference10Ideal) (hPre_finite_modulate := hPre_finite_modulate)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_finite_act := hPre_finite_act)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_finite_mixer := hPre_finite_mixer)
    ∧ preserves_Kernel9_Kernel9Ideal
    ∧ algebraic_Kernel9Ideal_Reference9Ideal (hKernel9Ideal := hKernel9Ideal) (hReference9Ideal := hReference9Ideal) (hPre_finite_tail := hPre_finite_tail)
    ∧ preserves_Kernel10_Kernel10Ideal
    ∧ algebraic_Kernel10Ideal_Reference10Ideal (hKernel10Ideal := hKernel10Ideal) (hReference10Ideal := hReference10Ideal) (hPre_finite_modulate := hPre_finite_modulate)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_gate_columns.lean ====
abbrev S4096x1024 : Shape := ⟨2, ![4096, 1024]⟩
abbrev S1024x1024 : Shape := ⟨2, ![1024, 1024]⟩
abbrev S2048x1024 : Shape := ⟨2, ![2048, 1024]⟩
abbrev S4096x12288 : Shape := ⟨2, ![4096, 12288]⟩
abbrev S4096x2048 : Shape := ⟨2, ![4096, 2048]⟩
abbrev S_ : Shape := ⟨0, ![]⟩
abbrev S12x4096x1024 : Shape := ⟨3, ![12, 4096, 1024]⟩

class Facts : Prop where
  bcast_S_S4096x1024 : S_.BroadcastsInDim S4096x1024 (![] : Fin 0 → Fin S4096x1024.rank)
  bcast_S_S12x4096x1024 : S_.BroadcastsInDim S12x4096x1024 (![] : Fin 0 → Fin S12x4096x1024.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S4096x1024 .bf16) (main_arg1 : FVec F S1024x1024 .bf16) (main_arg2 : FVec F S1024x1024 .bf16) (main_arg3 : FVec F S2048x1024 .bf16) (main_arg4 : FVec F S4096x12288 .f32) (main_arg5 : FVec F S4096x1024 .bf16) (main_arg6 : FVec F S4096x2048 .bf16) : IVec S4096x1024 1 × IVec S4096x1024 1 × IVec S12x4096x1024 1 × IVec S1024x1024 1 × IVec S2048x1024 1 :=
  let main_v0 : IVec S4096x1024 32 := iotaInDim S4096x1024 32 0
  let main_c : IVec S_ 32 := constantI S_ 32 0#32
  let main_v1 : IVec S4096x1024 32 := broadcastInDim S4096x1024 ![] bcast_S_S4096x1024 main_c
  let main_v2 : IVec S4096x1024 1 := cmpi .sge main_v0 main_v1
  let main_v3 : IVec S12x4096x1024 32 := iotaInDim S12x4096x1024 32 0
  let main_c_0 : IVec S_ 32 := constantI S_ 32 10#32
  let main_v4 : IVec S12x4096x1024 32 := broadcastInDim S12x4096x1024 ![] bcast_S_S12x4096x1024 main_c_0
  let main_v5 : IVec S12x4096x1024 1 := cmpi .sge main_v3 main_v4
  let main_v6 : IVec S1024x1024 32 := iotaInDim S1024x1024 32 0
  let main_c_1 : IVec S_ 32 := constantI S_ 32 0#32
  let main_v7 : IVec S1024x1024 32 := broadcastInDim S1024x1024 ![] bcast_S_S1024x1024 main_c_1
  let main_v8 : IVec S1024x1024 1 := cmpi .sge main_v6 main_v7
  let main_v9 : IVec S2048x1024 32 := iotaInDim S2048x1024 32 0
  let main_c_2 : IVec S_ 32 := constantI S_ 32 0#32
  let main_v10 : IVec S2048x1024 32 := broadcastInDim S2048x1024 ![] bcast_S_S2048x1024 main_c_2
  let main_v11 : IVec S2048x1024 1 := cmpi .sge main_v9 main_v10
  (main_v2, main_v2, main_v5, main_v8, main_v11)
-- ==== Pre_finite_act.lean ====
abbrev S4096x1024 : Shape := ⟨2, ![4096, 1024]⟩
abbrev S8x2080x1024 : Shape := ⟨3, ![8, 2080, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x2080x1024 : S_.BroadcastsInDim S8x2080x1024 (![] : Fin 0 → Fin S8x2080x1024.rank)
  reducesTo_S8x2080x1024_S_d0_1_2 : S8x2080x1024.ReducesTo [0, 1, 2] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn {F : FTy → Type} [FloatOps F] (main_arg0 : FVec F S4096x1024 .bf16) (main_arg1 : FVec F S8x2080x1024 .bf16) (main_arg2 : FVec F S2x4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S8x2080x1024 .f32 := (extf .f32 · bitsLt_bf16_f32) main_arg1
  let main_v6 : FVec F S8x2080x1024 .f32 := Host.absf main_v5
  let main_cst_0 : FVec F S_ .f32 := constant S_ .f32 0x7F800000#32
  let main_v7 : FVec F S8x2080x1024 .f32 := broadcastInDim S8x2080x1024 ![] bcast_S_S8x2080x1024 main_cst_0
  let main_v8 : IVec S8x2080x1024 1 := cmpf .olt main_v6 main_v7
  let main_c_1 : IVec S_ 1 := constantI S_ 1 1#1
  let main_v9 : IVec S_ 1 := (fun x v => Host.reduce IntOp.andi x v reducesTo_S8x2080x1024_S_d0_1_2 h_S_) main_v8 main_c_1
  let main_v10 : FVec F S2x4096x2816 .f32 := (extf .f32 · bitsLt_bf16_f32) main_arg2
  let main_v11 : FVec F S2x4096x2816 .f32 := Host.absf main_v10
  let main_cst_2 : FVec F S_ .f32 := constant S_ .f32 0x7F800000#32
  let main_v12 : FVec F S2x4096x2816 .f32 := broadcastInDim S2x4096x2816 ![] bcast_S_S2x4096x2816 main_cst_2
  let main_v13 : IVec S2x4096x2816 1 := cmpf .olt main_v11 main_v12
  let main_c_3 : IVec S_ 1 := constantI S_ 1 1#1
  let main_v14 : IVec S_ 1 := (fun x v => Host.reduce IntOp.andi x v reducesTo_S2x4096x2816_S_d0_1_2 h_S_) main_v13 main_c_3
  let main_v15 : IVec S_ 1 := andi main_v4 main_v9
  let main_v16 : IVec S_ 1 := andi main_v15 main_v14
  main_v16
-- ==== Pre_finite_mixer.lean ====
abbrev S4096x1024 : Shape := ⟨2, ![4096, 1024]⟩
abbrev S2x4096x2816 : Shape := ⟨3, ![2, 4096, 2816]⟩
abbrev S8x2080x1024 : Shape := ⟨3, ![8, 2080, 1024]⟩
abbrev S6x1024 : Shape := ⟨2, ![6, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  bcast_S_S8x2080x1024 : S_.BroadcastsInDim S8x2080x1024 (![] : Fin 0 → Fin S8x2080x1024.rank)
  reducesTo_S8x2080x1024_S_d0_1_2 : S8x2080x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v8 : IVec S_ 1) (main_v13 : IVec S_ 1) (main_v17 : IVec S_ 1) (main_v21 : IVec S_ 1) (main_v25 : IVec S_ 1) (main_v29 : IVec S_ 1) (main_v32 : IVec S1x1024 1) : IVec S_ 1 :=
  let main_c_13 : IVec S_ 1 := constantI S_ 1 1#1
  let main_v33 : IVec S_ 1 := (fun x v => Host.reduce IntOp.andi x v reducesTo_S1x1024_S_d0_1 h_S_) main_v32 main_c_13
  let main_v34 : IVec S_ 1 := andi main_v3 main_v8
  let main_v35 : IVec S_ 1 := andi main_v34 main_v13
  let main_v36 : IVec S_ 1 := andi main_v35 main_v17
  let main_v37 : IVec S_ 1 := andi main_v36 main_v21
  let main_v38 : IVec S_ 1 := andi main_v37 main_v25
  let main_v39 : IVec S_ 1 := andi main_v38 main_v29
  let main_v40 : IVec S_ 1 := andi main_v39 main_v33
  main_v40

def fn_part1 {F : FTy → Type} [FloatOps F] (main_arg4 : FVec F S4096x1024 .f32) (main_arg5 : FVec F S4096x1024 .f32) (main_arg6 : FVec F S4096x1024 .f32) (main_arg7 : FVec F S1x1024 .f32) (main_v3 : IVec S_ 1) (main_v8 : IVec S_ 1) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : FVec F S4096x1024 .f32 := Host.absf main_arg4
  let main_cst_6 : FVec F S_ .f32 := constant S_ .f32 0x7F800000#32
  let main_v19 : FVec F S4096x1024 .f32 := broadcastInDim S4096x1024 ![] bcast_S_S4096x1024 main_cst_6
  let main_v20 : IVec S4096x1024 1 := cmpf .olt main_v18 main_v19
  let main_c_7 : IVec S_ 1 := constantI S_ 1 1#1
  let main_v21 : IVec S_ 1 := (fun x v => Host.reduce IntOp.andi x v reducesTo_S4096x1024_S_d0_1 h_S_) main_v20 main_c_7
  let main_v22 : FVec F S4096x1024 .f32 := Host.absf main_arg5
  let main_cst_8 : FVec F S_ .f32 := constant S_ .f32 0x7F800000#32
  let main_v23 : FVec F S4096x1024 .f32 := broadcastInDim S4096x1024 ![] bcast_S_S4096x1024 main_cst_8
  let main_v24 : IVec S4096x1024 1 := cmpf .olt main_v22 main_v23
  let main_c_9 : IVec S_ 1 := constantI S_ 1 1#1
  let main_v25 : IVec S_ 1 := (fun x v => Host.reduce IntOp.andi x v reducesTo_S4096x1024_S_d0_1 h_S_) main_v24 main_c_9
  let main_v26 : FVec F S4096x1024 .f32 := Host.absf main_arg6
  let main_cst_10 : FVec F S_ .f32 := constant S_ .f32 0x7F800000#32
  let main_v27 : FVec F S4096x1024 .f32 := broadcastInDim S4096x1024 ![] bcast_S_S4096x1024 main_cst_10
  let main_v28 : IVec S4096x1024 1 := cmpf .olt main_v26 main_v27
  let main_c_11 : IVec S_ 1 := constantI S_ 1 1#1
  let main_v29 : IVec S_ 1 := (fun x v => Host.reduce IntOp.andi x v reducesTo_S4096x1024_S_d0_1 h_S_) main_v28 main_c_11
  let main_v30 : FVec F S1x1024 .f32 := Host.absf main_arg7
  let main_cst_12 : FVec F S_ .f32 := constant S_ .f32 0x7F800000#32
  let main_v31 : FVec F S1x1024 .f32 := broadcastInDim S1x1024 ![] bcast_S_S1x1024 main_cst_12
  let main_v32 : IVec S1x1024 1 := cmpf .olt main_v30 main_v31
  fn_part2 (F := F) main_v3 main_v8 main_v13 main_v17 main_v21 main_v25 main_v29 main_v32

def fn {F : FTy → Type} [FloatOps F] (main_arg0 : FVec F S4096x1024 .f32) (main_arg1 : FVec F S2x4096x2816 .bf16) (main_arg2 : FVec F S8x2080x1024 .bf16) (main_arg3 : FVec F S6x1024 .f32) (main_arg4 : FVec F S4096x1024 .f32) (main_arg5 : FVec F S4096x1024 .f32) (main_arg6 : FVec F S4096x1024 .f32) (main_arg7 : FVec F S1x1024 .f32) (main_arg8 : FVec F S1x1024 .f32) (main_arg9 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x4096x2816 .f32 := (extf .f32 · bitsLt_bf16_f32) main_arg1
  let main_v5 : FVec F S2x4096x2816 .f32 := Host.absf main_v4
  let main_cst_0 : FVec F S_ .f32 := constant S_ .f32 0x7F800000#32
  let main_v6 : FVec F S2x4096x2816 .f32 := broadcastInDim S2x4096x2816 ![] bcast_S_S2x4096x2816 main_cst_0
  let main_v7 : IVec S2x4096x2816 1 := cmpf .olt main_v5 main_v6
  let main_c_1 : IVec S_ 1 := constantI S_ 1 1#1
  let main_v8 : IVec S_ 1 := (fun x v => Host.reduce IntOp.andi x v reducesTo_S2x4096x2816_S_d0_1_2 h_S_) main_v7 main_c_1
  let main_v9 : FVec F S8x2080x1024 .f32 := (extf .f32 · bitsLt_bf16_f32) main_arg2
  let main_v10 : FVec F S8x2080x1024 .f32 := Host.absf main_v9
  let main_cst_2 : FVec F S_ .f32 := constant S_ .f32 0x7F800000#32
  let main_v11 : FVec F S8x2080x1024 .f32 := broadcastInDim S8x2080x1024 ![] bcast_S_S8x2080x1024 main_cst_2
  let main_v12 : IVec S8x2080x1024 1 := cmpf .olt main_v10 main_v11
  let main_c_3 : IVec S_ 1 := constantI S_ 1 1#1
  let main_v13 : IVec S_ 1 := (fun x v => Host.reduce IntOp.andi x v reducesTo_S8x2080x1024_S_d0_1_2 h_S_) main_v12 main_c_3
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_arg7 main_v3 main_v8 main_v13 main_v16
-- ==== Pre_finite_modulate.lean ====
abbrev S4096x1024 : Shape := ⟨2, ![4096, 1024]⟩
abbrev S6x1024 : Shape := ⟨2, ![6, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_

variable [Facts]

def fn {F : FTy → Type} [FloatOps F] (main_arg0 : FVec F S4096x1024 .f32) (main_arg1 : FVec F S4096x1024 .f32) (main_arg2 : FVec F S6x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S6x1024 .f32 := Host.absf main_arg2
  let main_cst_2 : FVec F S_ .f32 := constant S_ .f32 0x7F800000#32
  let main_v9 : FVec F S6x1024 .f32 := broadcastInDim S6x1024 ![] bcast_S_S6x1024 main_cst_2
  let main_v10 : IVec S6x1024 1 := cmpf .olt main_v8 main_v9
  let main_c_3 : IVec S_ 1 := constantI S_ 1 1#1
  let main_v11 : IVec S_ 1 := (fun x v => Host.reduce IntOp.andi x v reducesTo_S6x1024_S_d0_1 h_S_) main_v10 main_c_3
  let main_v12 : IVec S_ 1 := andi main_v3 main_v7
  let main_v13 : IVec S_ 1 := andi main_v12 main_v11
  main_v13
-- ==== Pre_finite_tail.lean ====
abbrev S4096x1024 : Shape := ⟨2, ![4096, 1024]⟩
abbrev S4096x2816 : Shape := ⟨2, ![4096, 2816]⟩
abbrev S8x2080x1024 : Shape := ⟨3, ![8, 2080, 1024]⟩
abbrev S6x1024 : Shape := ⟨2, ![6, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S8x2080x1024 : S_.BroadcastsInDim S8x2080x1024 (![] : Fin 0 → Fin S8x2080x1024.rank)
  reducesTo_S8x2080x1024_S_d0_1_2 : S8x2080x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v25 : IVec S_ 1) (main_v29 : IVec S_ 1) (main_v33 : IVec S_ 1) : IVec S_ 1 :=
  let main_v34 : IVec S_ 1 := andi main_v33 main_v25
  let main_v35 : IVec S_ 1 := andi main_v34 main_v29
  main_v35

def fn_part1 {F : FTy → Type} [FloatOps F] (main_arg4 : FVec F S1x1024 .f32) (main_arg5 : FVec F S1x1024 .f32) (main_arg6 : FVec F S4096x1024 .f32) (main_v3 : IVec S_ 1) (main_v8 : IVec S_ 1) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : FVec F S4096x1024 .f32 := Host.absf main_arg6
  let main_cst_10 : FVec F S_ .f32 := constant S_ .f32 0x7F800000#32
  let main_v27 : FVec F S4096x1024 .f32 := broadcastInDim S4096x1024 ![] bcast_S_S4096x1024 main_cst_10
  let main_v28 : IVec S4096x1024 1 := cmpf .olt main_v26 main_v27
  let main_c_11 : IVec S_ 1 := constantI S_ 1 1#1
  let main_v29 : IVec S_ 1 := (fun x v => Host.reduce IntOp.andi x v reducesTo_S4096x1024_S_d0_1 h_S_) main_v28 main_c_11
  let main_v30 : IVec S_ 1 := andi main_v3 main_v8
  let main_v31 : IVec S_ 1 := andi main_v30 main_v13
  let main_v32 : IVec S_ 1 := andi main_v31 main_v17
  let main_v33 : IVec S_ 1 := andi main_v32 main_v21
  fn_part2 (F := F) main_v25 main_v29 main_v33

def fn {F : FTy → Type} [FloatOps F] (main_arg0 : FVec F S4096x1024 .f32) (main_arg1 : FVec F S4096x2816 .bf16) (main_arg2 : FVec F S8x2080x1024 .bf16) (main_arg3 : FVec F S6x1024 .f32) (main_arg4 : FVec F S1x1024 .f32) (main_arg5 : FVec F S1x1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : FVec F S8x2080x1024 .f32 := (extf .f32 · bitsLt_bf16_f32) main_arg2
  let main_v10 : FVec F S8x2080x1024 .f32 := Host.absf main_v9
  let main_cst_2 : FVec F S_ .f32 := constant S_ .f32 0x7F800000#32
  let main_v11 : FVec F S8x2080x1024 .f32 := broadcastInDim S8x2080x1024 ![] bcast_S_S8x2080x1024 main_cst_2
  let main_v12 : IVec S8x2080x1024 1 := cmpf .olt main_v10 main_v11
  let main_c_3 : IVec S_ 1 := constantI S_ 1 1#1
  let main_v13 : IVec S_ 1 := (fun x v => Host.reduce IntOp.andi x v reducesTo_S8x2080x1024_S_d0_1_2 h_S_) main_v12 main_c_3
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_v3 main_v8 main_v13 main_v16
-- ==== Kernel.lean ====
abbrev S4096x1024 : Shape := ⟨2, ![4096, 1024]⟩
abbrev S1024x1024 : Shape := ⟨2, ![1024, 1024]⟩
abbrev S2048x1024 : Shape := ⟨2, ![2048, 1024]⟩
abbrev S4096x12288 : Shape := ⟨2, ![4096, 12288]⟩
abbrev S4096x2048 : Shape := ⟨2, ![4096, 2048]⟩
abbrev S12x4096x1024 : Shape := ⟨3, ![12, 4096, 1024]⟩
abbrev S256x1024 : Shape := ⟨2, ![256, 1024]⟩
abbrev S256x2048 : Shape := ⟨2, ![256, 2048]⟩
abbrev S2x256x1024 : Shape := ⟨3, ![2, 256, 1024]⟩
abbrev S1x256x1024 : Shape := ⟨3, ![1, 256, 1024]⟩

abbrev nBuf : Space → Nat
  | .hbm => 20
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .bf16⟩
  | .hbm, ⟨3, _⟩ => ⟨S2048x1024, .bf16⟩
  | .hbm, ⟨4, _⟩ => ⟨S4096x12288, .f32⟩
  | .hbm, ⟨5, _⟩ => ⟨S4096x1024, .bf16⟩
  | .hbm, ⟨6, _⟩ => ⟨S4096x2048, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x2048, .f32⟩
  | .hbm, ⟨12, _⟩ => ⟨S2048x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S12x4096x1024, .bf16⟩
  | .hbm, ⟨18, _⟩ => ⟨S1024x1024, .bf16⟩
  | .hbm, ⟨19, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S2x256x1024, .bf16⟩
  | .local _ .vmem, ⟨20, _⟩ => ⟨S2x256x1024, .bf16⟩
  | .local _ .vmem, ⟨21, _⟩ => ⟨S1024x1024, .bf16⟩
  | .local _ .vmem, ⟨22, _⟩ => ⟨S2048x1024, .bf16⟩
  | .local _ .vmem, ⟨23, _⟩ => ⟨S1024x1024, .f32⟩
  | .local _ .vmem, ⟨24, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v66 : BitVec 1 := Scalar.cmpi .eq arg0 c15_i32
  let v67 : BitVec 32 := Scalar.extui v66
  let c0_i32_43 : BitVec 32 := 0#32
  let v68 : BitVec 1 := Scalar.cmpi .ne v67 c0_i32_43
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1024x1024 : Shape := ⟨2, ![1024, 1024]⟩
abbrev S2048x1024 : Shape := ⟨2, ![2048, 1024]⟩
abbrev S4096x12288 : Shape := ⟨2, ![4096, 12288]⟩
abbrev S4096x2048 : Shape := ⟨2, ![4096, 2048]⟩
abbrev S_ : Shape := ⟨0, ![]⟩
abbrev S10x4096x1024 : Shape := ⟨3, ![10, 4096, 1024]⟩
abbrev S1x4096x1024 : Shape := ⟨3, ![1, 4096, 1024]⟩
abbrev S12x4096x1024 : Shape := ⟨3, ![12, 4096, 1024]⟩
abbrev S1024x2048 : Shape := ⟨2, ![1024, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .bf16⟩
  | .hbm, ⟨3, _⟩ => ⟨S2048x1024, .bf16⟩
  | .hbm, ⟨4, _⟩ => ⟨S4096x12288, .f32⟩
  | .hbm, ⟨5, _⟩ => ⟨S4096x1024, .bf16⟩
  | .hbm, ⟨6, _⟩ => ⟨S4096x2048, .bf16⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S2048x1024, .f32⟩
  | .hbm, ⟨11, _⟩ => ⟨S4096x1024, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S10x4096x1024, .f32⟩
  | .hbm, ⟨54, _⟩ => ⟨S1x4096x1024, .f32⟩
  | .hbm, ⟨55, _⟩ => ⟨S1x4096x1024, .f32⟩
  | .hbm, ⟨56, _⟩ => ⟨S12x4096x1024, .f32⟩
  | .hbm, ⟨57, _⟩ => ⟨S1024x1024, .f32⟩
  | .hbm, ⟨58, _⟩ => ⟨S1024x1024, .f32⟩
  | .hbm, ⟨59, _⟩ => ⟨S1024x2048, .f32⟩
  | .hbm, ⟨60, _⟩ => ⟨S2048x1024, .f32⟩
  | .hbm, ⟨61, _⟩ => ⟨S4096x1024, .bf16⟩
  | .hbm, ⟨62, _⟩ => ⟨S4096x1024, .bf16⟩
  | .hbm, ⟨63, _⟩ => ⟨S12x4096x1024, .bf16⟩
  | .hbm, ⟨64, _⟩ => ⟨S1024x1024, .bf16⟩
  | .hbm, ⟨65, _⟩ => ⟨S2048x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel2.lean ====
abbrev S12x4096x1024 : Shape := ⟨3, ![12, 4096, 1024]⟩
abbrev S4096x1024 : Shape := ⟨2, ![4096, 1024]⟩
abbrev S12288x1024 : Shape := ⟨2, ![12288, 1024]⟩
abbrev S1x4096x1024 : Shape := ⟨3, ![1, 4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S12x4096x1024, .bf16⟩
  | .hbm, ⟨1, _⟩ => ⟨S4096x1024, .bf16⟩
  | .hbm, ⟨2, _⟩ => ⟨S12288x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S12x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S12x4096x1024 : Shape := ⟨3, ![12, 4096, 1024]⟩
abbrev S4096x1024 : Shape := ⟨2, ![4096, 1024]⟩
abbrev S4096x12x1024 : Shape := ⟨3, ![4096, 12, 1024]⟩
abbrev S4096x12288 : Shape := ⟨2, ![4096, 12288]⟩
abbrev S_ : Shape := ⟨0, ![]⟩
abbrev S12288x1024 : Shape := ⟨2, ![12288, 1024]⟩
abbrev S1024x12288 : Shape := ⟨2, ![1024, 12288]⟩

abbrev nBuf : Space → Nat
  | .hbm => 14
  | .vmem => 0
  | .smem => 0
  | _ => 0

abbrev bufTy : (tb : Table) → Fin (tcTables nBuf tb) → BufTy
  | .hbm, ⟨0, _⟩ => ⟨S12x4096x1024, .bf16⟩
  | .hbm, ⟨1, _⟩ => ⟨S4096x1024, .bf16⟩
  | .hbm, ⟨2, _⟩ => ⟨S12x4096x1024, .f32⟩
  | .hbm, ⟨3, _⟩ => ⟨S4096x12x1024, .f32⟩
  | .hbm, ⟨4, _⟩ => ⟨S4096x12288, .f32⟩
  | .hbm, ⟨5, _⟩ => ⟨S4096x1024, .f32⟩
  | .hbm, ⟨6, _⟩ => ⟨S_, .f32⟩
  | .hbm, ⟨7, _⟩ => ⟨S12288x1024, .f32⟩
  | .hbm, ⟨8, _⟩ => ⟨S1024x12288, .f32⟩
  | .hbm, ⟨9, _⟩ => ⟨S4096x12288, .f32⟩
  | .hbm, ⟨10, _⟩ => ⟨S12288x1024, .f32⟩
  | .hbm, ⟨11, _⟩ => ⟨S1024x12288, .f32⟩
  | .hbm, ⟨12, _⟩ => ⟨S12288x1024, .f32⟩
  | .hbm, ⟨13, _⟩ => ⟨S12288x1024, .bf16⟩
  | _, _ => ⟨S12x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x256 : Shape := ⟨3, ![1, 4096, 256]⟩
abbrev S256x1024 : Shape := ⟨2, ![256, 1024]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S1024x2816, .f32⟩
  | .hbm, ⟨14, _⟩ => ⟨S4096x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S5632x1024, .f32⟩
  | .hbm, ⟨22, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S8x2080x1024 : Shape := ⟨3, ![8, 2080, 1024]⟩
abbrev S2x4096x2816 : Shape := ⟨3, ![2, 4096, 2816]⟩
abbrev S4096x2816 : Shape := ⟨2, ![4096, 2816]⟩
abbrev S512x1024 : Shape := ⟨2, ![512, 1024]⟩
abbrev S4x352x1024 : Shape := ⟨3, ![4, 352, 1024]⟩
abbrev S2x512x1408 : Shape := ⟨3, ![2, 512, 1408]⟩
abbrev S512x1408 : Shape := ⟨2, ![512, 1408]⟩
abbrev S1408x1024 : Shape := ⟨2, ![1408, 1024]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x2080x1024, .bf16⟩
  | .hbm, ⟨2, _⟩ => ⟨S2x4096x2816, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4096x1024 : Shape := ⟨2, ![4096, 1024]⟩
abbrev S8x2080x1024 : Shape := ⟨3, ![8, 2080, 1024]⟩
abbrev S8x352x1024 : Shape := ⟨3, ![8, 352, 1024]⟩
abbrev S2816x1024 : Shape := ⟨2, ![2816, 1024]⟩
abbrev S1024x2816 : Shape := ⟨2, ![1024, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x2080x1024, .bf16⟩
  | .hbm, ⟨2, _⟩ => ⟨S4096x1024, .f32⟩
  | .hbm, ⟨3, _⟩ => ⟨S8x352x1024, .bf16⟩
  | .hbm, ⟨4, _⟩ => ⟨S2816x1024, .bf16⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S8x352x1024, .bf16⟩
  | .hbm, ⟨9, _⟩ => ⟨S2816x1024, .bf16⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S1x4096x2816, .f32⟩
  | .hbm, ⟨14, _⟩ => ⟨S1x4096x2816, .f32⟩
  | .hbm, ⟨15, _⟩ => ⟨S2x4096x2816, .f32⟩
  | .hbm, ⟨16, _⟩ => ⟨S2x4096x2816, .bf16⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel6.lean ====
abbrev S4096x1024 : Shape := ⟨2, ![4096, 1024]⟩
abbrev S8x2080x1024 : Shape := ⟨3, ![8, 2080, 1024]⟩
abbrev S2x4096x2816 : Shape := ⟨3, ![2, 4096, 2816]⟩
abbrev S512x1024 : Shape := ⟨2, ![512, 1024]⟩
abbrev S4x352x1024 : Shape := ⟨3, ![4, 352, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x2080x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x1024 : Shape := ⟨2, ![4096, 1024]⟩
abbrev S8x2080x1024 : Shape := ⟨3, ![8, 2080, 1024]⟩
abbrev S2x4096x2816 : Shape := ⟨3, ![2, 4096, 2816]⟩
abbrev S8x352x1024 : Shape := ⟨3, ![8, 352, 1024]⟩
abbrev S2816x1024 : Shape := ⟨2, ![2816, 1024]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x2080x1024, .bf16⟩
  | .hbm, ⟨2, _⟩ => ⟨S2x4096x2816, .bf16⟩
  | .hbm, ⟨3, _⟩ => ⟨S8x352x1024, .bf16⟩
  | .hbm, ⟨4, _⟩ => ⟨S2816x1024, .bf16⟩
  | .hbm, ⟨5, _⟩ => ⟨S2816x1024, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S1x4096x2816, .bf16⟩
  | .hbm, ⟨10, _⟩ => ⟨S4096x2816, .bf16⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1024x1024 : Shape := ⟨2, ![1024, 1024]⟩
abbrev S2048x1024 : Shape := ⟨2, ![2048, 1024]⟩
abbrev S4096x12288 : Shape := ⟨2, ![4096, 12288]⟩
abbrev S6x1024 : Shape := ⟨2, ![6, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x1024, .bf16⟩
  | .hbm, ⟨3, _⟩ => ⟨S2048x1024, .bf16⟩
  | .hbm, ⟨4, _⟩ => ⟨S4096x12288, .f32⟩
  | .hbm, ⟨5, _⟩ => ⟨S1024x1024, .bf16⟩
  | .hbm, ⟨6, _⟩ => ⟨S4096x1024, .f32⟩
  | .hbm, ⟨7, _⟩ => ⟨S6x1024, .f32⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S2048x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S6x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S4096x1024 : Shape := ⟨2, ![4096, 1024]⟩
abbrev S4096x2048 : Shape := ⟨2, ![4096, 2048]⟩
abbrev S1024x1024 : Shape := ⟨2, ![1024, 1024]⟩
abbrev S2048x1024 : Shape := ⟨2, ![2048, 1024]⟩
abbrev S4096x12288 : Shape := ⟨2, ![4096, 12288]⟩
abbrev S6x1024 : Shape := ⟨2, ![6, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x1024, .bf16⟩
  | .hbm, ⟨3, _⟩ => ⟨S2048x1024, .bf16⟩
  | .hbm, ⟨4, _⟩ => ⟨S4096x12288, .f32⟩
  | .hbm, ⟨5, _⟩ => ⟨S1024x1024, .bf16⟩
  | .hbm, ⟨6, _⟩ => ⟨S4096x1024, .f32⟩
  | .hbm, ⟨7, _⟩ => ⟨S6x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x2048, .f32⟩
  | .hbm, ⟨12, _⟩ => ⟨S1024x1024, .f32⟩
  | .hbm, ⟨13, _⟩ => ⟨S2048x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S1x1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S1x1024, .f32⟩
  | .hbm, ⟨103, _⟩ => ⟨S1024, .f32⟩
  | .hbm, ⟨104, _⟩ => ⟨S1x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S4096x1024, .bf16⟩
  | .hbm, ⟨109, _⟩ => ⟨S4096x1024, .bf16⟩
  | .hbm, ⟨110, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Kernel8.lean ====
abbrev S4096x1024 : Shape := ⟨2, ![4096, 1024]⟩
abbrev S2x4096x2816 : Shape := ⟨3, ![2, 4096, 2816]⟩
abbrev S8x2080x1024 : Shape := ⟨3, ![8, 2080, 1024]⟩
abbrev S6x1024 : Shape := ⟨2, ![6, 1024]⟩
abbrev S1x1024 : Shape := ⟨2, ![1, 1024]⟩
abbrev S8x1024 : Shape := ⟨2, ![8, 1024]⟩
abbrev S1024x1024 : Shape := ⟨2, ![1024, 1024]⟩
abbrev S256x1024 : Shape := ⟨2, ![256, 1024]⟩
abbrev S2x256x2816 : Shape := ⟨3, ![2, 256, 2816]⟩
abbrev S8x352x1024 : Shape := ⟨3, ![8, 352, 1024]⟩
abbrev S1x256x2816 : Shape := ⟨3, ![1, 256, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S8x2080x1024, .bf16⟩
  | .hbm, ⟨3, _⟩ => ⟨S6x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S8x1024, .f32⟩
  | .hbm, ⟨13, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S2x256x2816, .bf16⟩
  | .local _ .vmem, ⟨3, _⟩ => ⟨S2x256x2816, .bf16⟩
  | .local _ .vmem, ⟨4, _⟩ => ⟨S8x352x1024, .bf16⟩
  | .local _ .vmem, ⟨5, _⟩ => ⟨S8x352x1024, .bf16⟩
  | .local _ .vmem, ⟨6, _⟩ => ⟨S6x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S8x1024, .f32⟩
  | .local _ .vmem, ⟨22, _⟩ => ⟨S1024x1024, .bf16⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v144 : BitVec 1 := Scalar.cmpi .eq arg0 c15_i32
  let v145 : BitVec 32 := Scalar.extui v144
  let c0_i32_80 : BitVec 32 := 0#32
  let v146 : BitVec 1 := Scalar.cmpi .ne v145 c0_i32_80
  v146

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S4096x1024 : Shape := ⟨2, ![4096, 1024]⟩
abbrev S2x4096x2816 : Shape := ⟨3, ![2, 4096, 2816]⟩
abbrev S8x2080x1024 : Shape := ⟨3, ![8, 2080, 1024]⟩
abbrev S6x1024 : Shape := ⟨2, ![6, 1024]⟩
abbrev S1x1024 : Shape := ⟨2, ![1, 1024]⟩
abbrev S8x352x1024 : Shape := ⟨3, ![8, 352, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1x4096x2816 : Shape := ⟨3, ![1, 4096, 2816]⟩
abbrev S1024x1024 : Shape := ⟨2, ![1024, 1024]⟩
abbrev S8x1024 : Shape := ⟨2, ![8, 1024]⟩

abbrev nBuf : Space → Nat
  | .hbm => 222
  | .vmem => 0
  | .smem => 0
  | _ => 0

abbrev hbmTy0_0 (i : Nat) : BufTy := match i % 128 with
  | 0 => ⟨S4096x1024, .f32⟩
  | 1 => ⟨S2x4096x2816, .bf16⟩
  | 2 => ⟨S8x2080x1024, .bf16⟩
  | 3 => ⟨S6x1024, .f32⟩
  | 4 => ⟨S4096x1024, .f32⟩
  | 5 => ⟨S4096x1024, .f32⟩
  | 6 => ⟨S4096x1024, .f32⟩
  | 7 => ⟨S1x1024, .f32⟩
  | 8 => ⟨S1x1024, .f32⟩
  | 9 => ⟨S4096x1024, .bf16⟩
  | 10 => ⟨S8x352x1024, .bf16⟩
  | 11 => ⟨S2816x1024, .bf16⟩
  | 12 => ⟨S2816x1024, .f32⟩
  | 13 => ⟨S8x352x1024, .bf16⟩
  | 14 => ⟨S2816x1024, .bf16⟩
  | 15 => ⟨S2816x1024, .f32⟩
  | 16 => ⟨S4096x1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S_, .f32⟩
  | 47 => ⟨S1024, .f32⟩
  | 48 => ⟨S1024, .f32⟩
  | 49 => ⟨S1x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1024x2816, .f32⟩
  | 56 => ⟨S4096x2816, .f32⟩
  | 57 => ⟨S1024x2816, .f32⟩
  | 58 => ⟨S4096x2816, .f32⟩
  | 59 => ⟨S1x4096x2816, .bf16⟩
  | 60 => ⟨S4096x2816, .bf16⟩
  | 61 => ⟨S4096x2816, .f32⟩
  | 62 => ⟨S1x4096x2816, .bf16⟩
  | 63 => ⟨S4096x2816, .bf16⟩
  | 64 => ⟨S4096x2816, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S4096x1024, .f32⟩
  | 74 => ⟨S_, .f32⟩
  | 75 => ⟨S1024, .f32⟩
  | 76 => ⟨S1x1024, .f32⟩
  | 77 => ⟨S4096x1024, .f32⟩
  | 78 => ⟨S4096x1024, .f32⟩
  | 79 => ⟨S_, .f32⟩
  | 80 => ⟨S1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1024, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S1x1024, .f32⟩
  | 110 => ⟨S1024, .f32⟩
  | 111 => ⟨S1024, .f32⟩
  | 112 => ⟨S1024, .f32⟩
  | 113 => ⟨S_, .f32⟩
  | 114 => ⟨S4096x1024, .f32⟩
  | 115 => ⟨S4096x1024, .f32⟩
  | 116 => ⟨S1x1024, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S4096x1024, .f32⟩
  | 30 => ⟨S_, .f32⟩
  | 31 => ⟨S1024, .f32⟩
  | 32 => ⟨S1x1024, .f32⟩
  | 33 => ⟨S4096x1024, .f32⟩
  | 34 => ⟨S4096x1024, .f32⟩
  | 35 => ⟨S_, .f32⟩
  | 36 => ⟨S1024, .f32⟩
  | 37 => ⟨S4096x1024, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S_, .f32⟩
  | 74 => ⟨S4096x1024, .f32⟩
  | 75 => ⟨S4096x1024, .f32⟩
  | 76 => ⟨S_, .f32⟩
  | 77 => ⟨S1024x1024, .f32⟩
  | 78 => ⟨S4096x1024, .f32⟩
  | 79 => ⟨S_, .f32⟩
  | 80 => ⟨S1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S8x1024, .f32⟩
  | 90 => ⟨S4096x1024, .bf16⟩
  | 91 => ⟨S1024x1024, .f32⟩
  | 92 => ⟨S1024x1024, .f32⟩
  | 93 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_19 : Ref sig .tc := ⟨.hbm, 129, rfl⟩
abbrev main_v99 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_22 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_cst_24 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_26 : Ref sig .tc := ⟨.hbm, 163, rfl⟩
abbrev main_v126 : Ref sig .tc := ⟨.hbm, 164, rfl⟩
abbrev main_v127 : Ref sig .tc := ⟨.hbm, 165, rfl⟩
abbrev main_cst_27 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_28 : Ref sig .tc := ⟨.hbm, 172, rfl⟩
abbrev main_v133 : Ref sig .tc := ⟨.hbm, 173, rfl⟩
abbrev main_v134 : Ref sig .tc := ⟨.hbm, 174, rfl⟩
abbrev main_cst_29 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_30 : Ref sig .tc := ⟨.hbm, 183, rfl⟩
abbrev main_v142 : Ref sig .tc := ⟨.hbm, 184, rfl⟩
abbrev main_v143 : Ref sig .tc := ⟨.hbm, 185, rfl⟩
abbrev main_cst_31 : Ref sig .tc := ⟨.hbm, 186, rfl⟩
abbrev main_v144 : Ref sig .tc := ⟨.hbm, 187, rfl⟩
abbrev main_v145 : Ref sig .tc := ⟨.hbm, 188, rfl⟩
abbrev main_cst_32 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_33 : Ref sig .tc := ⟨.hbm, 196, rfl⟩
abbrev main_v152 : Ref sig .tc := ⟨.hbm, 197, rfl⟩
abbrev main_v153 : Ref sig .tc := ⟨.hbm, 198, rfl⟩
abbrev main_cst_34 : Ref sig .tc := ⟨.hbm, 199, rfl⟩
abbrev main_v154 : Ref sig .tc := ⟨.hbm, 200, rfl⟩
abbrev main_cst_35 : Ref sig .tc := ⟨.hbm, 201, rfl⟩
abbrev main_v155 : Ref sig .tc := ⟨.hbm, 202, rfl⟩
abbrev main_v156 : Ref sig .tc := ⟨.hbm, 203, rfl⟩
abbrev main_cst_36 : Ref sig .tc := ⟨.hbm, 204, rfl⟩
abbrev main_v157 : Ref sig .tc := ⟨.hbm, 205, rfl⟩
abbrev main_v158 : Ref sig .tc := ⟨.hbm, 206, rfl⟩
abbrev main_cst_37 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩

abbrev nD : Nat := 1
abbrev τ : Topo := Topo.v7x

variable {F : FTy → Type} [FloatOps F]
-- ==== Kernel9.lean ====
abbrev S4096x1024 : Shape := ⟨2, ![4096, 1024]⟩
abbrev S4096x2816 : Shape := ⟨2, ![4096, 2816]⟩
abbrev S8x2080x1024 : Shape := ⟨3, ![8, 2080, 1024]⟩
abbrev S6x1024 : Shape := ⟨2, ![6, 1024]⟩
abbrev S1x1024 : Shape := ⟨2, ![1, 1024]⟩
abbrev S8x1024 : Shape := ⟨2, ![8, 1024]⟩
abbrev S512x1024 : Shape := ⟨2, ![512, 1024]⟩
abbrev S512x2816 : Shape := ⟨2, ![512, 2816]⟩
abbrev S8x352x1024 : Shape := ⟨3, ![8, 352, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S8x2080x1024, .bf16⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S8x352x1024, .bf16⟩
  | .local _ .vmem, ⟨5, _⟩ => ⟨S6x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x1024 : Shape := ⟨2, ![4096, 1024]⟩
abbrev S4096x2816 : Shape := ⟨2, ![4096, 2816]⟩
abbrev S8x2080x1024 : Shape := ⟨3, ![8, 2080, 1024]⟩
abbrev S6x1024 : Shape := ⟨2, ![6, 1024]⟩
abbrev S1x1024 : Shape := ⟨2, ![1, 1024]⟩
abbrev S8x352x1024 : Shape := ⟨3, ![8, 352, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x2816, .bf16⟩
  | 2 => ⟨S8x2080x1024, .bf16⟩
  | 3 => ⟨S6x1024, .f32⟩
  | 4 => ⟨S1x1024, .f32⟩
  | 5 => ⟨S1x1024, .f32⟩
  | 6 => ⟨S4096x1024, .f32⟩
  | 7 => ⟨S4096x2816, .f32⟩
  | 8 => ⟨S8x352x1024, .bf16⟩
  | 9 => ⟨S2816x1024, .bf16⟩
  | 10 => ⟨S2816x1024, .f32⟩
  | 11 => ⟨S4096x1024, .f32⟩
  | 12 => ⟨S1x1024, .f32⟩
  | 13 => ⟨S1024, .f32⟩
  | 14 => ⟨S1024, .f32⟩
  | 15 => ⟨S1024, .f32⟩
  | 16 => ⟨S_, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096, .f32⟩
  | 61 => ⟨S_, .f32⟩
  | 62 => ⟨S4096, .f32⟩
  | 63 => ⟨S4096, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S4096, .f32⟩
  | 72 => ⟨S_, .f32⟩
  | 73 => ⟨S4096, .f32⟩
  | 74 => ⟨S4096, .f32⟩
  | 75 => ⟨S4096x1024, .f32⟩
  | 76 => ⟨S4096x1024, .f32⟩
  | 77 => ⟨S_, .f32⟩
  | 78 => ⟨S1024, .f32⟩
  | 79 => ⟨S1x1024, .f32⟩
  | 80 => ⟨S_, .f32⟩
  | 81 => ⟨S1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S_, .f32⟩
  | 89 => ⟨S1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S_, .f32⟩
  | 125 => ⟨S1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S8x1024, .f32⟩
  | 13 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_21 : Ref sig .tc := ⟨.hbm, 108, rfl⟩
abbrev main_v79 : Ref sig .tc := ⟨.hbm, 109, rfl⟩
abbrev main_v80 : Ref sig .tc := ⟨.hbm, 110, rfl⟩
abbrev main_cst_22 : Ref sig .tc := ⟨.hbm, 111, rfl⟩
abbrev main_v81 : Ref sig .tc := ⟨.hbm, 112, rfl⟩
abbrev main_v82 : Ref sig .tc := ⟨.hbm, 113, rfl⟩
abbrev main_cst_23 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_cst_26 : Ref sig .tc := ⟨.hbm, 126, rfl⟩
abbrev main_v92 : Ref sig .tc := ⟨.hbm, 127, rfl⟩
abbrev main_v93 : Ref sig .tc := ⟨.hbm, 128, rfl⟩
abbrev main_cst_27 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Kernel10.lean ====
abbrev S4096x1024 : Shape := ⟨2, ![4096, 1024]⟩
abbrev S6x1024 : Shape := ⟨2, ![6, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S4096x1024, .f32⟩
  | .hbm, ⟨4, _⟩ => ⟨S4096x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S6x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S4096x1024 : Shape := ⟨2, ![4096, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_16 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel11.lean ====
abbrev S4096x12288 : Shape := ⟨2, ![4096, 12288]⟩
abbrev S4096x2048 : Shape := ⟨2, ![4096, 2048]⟩
abbrev S4096x512 : Shape := ⟨2, ![4096, 512]⟩
abbrev S4096x3072 : Shape := ⟨2, ![4096, 3072]⟩
abbrev S4x3072 : Shape := ⟨2, ![4, 3072]⟩
abbrev S12x4096x1024 : Shape := ⟨3, ![12, 4096, 1024]⟩
abbrev S8x3072 : Shape := ⟨2, ![8, 3072]⟩
abbrev S1x3072 : Shape := ⟨2, ![1, 3072]⟩
abbrev S512x1024 : Shape := ⟨2, ![512, 1024]⟩
abbrev S8x1024 : Shape := ⟨2, ![8, 1024]⟩
abbrev S16x1024 : Shape := ⟨2, ![16, 1024]⟩
abbrev S512x512 : Shape := ⟨2, ![512, 512]⟩
abbrev S16x512 : Shape := ⟨2, ![16, 512]⟩
abbrev S4x1024 : Shape := ⟨2, ![4, 1024]⟩
abbrev S1x512x1024 : Shape := ⟨3, ![1, 512, 1024]⟩
abbrev S1x1024 : Shape := ⟨2, ![1, 1024]⟩
abbrev S8x512 : Shape := ⟨2, ![8, 512]⟩
abbrev S520x1024 : Shape := ⟨2, ![520, 1024]⟩
abbrev S1024 : Shape := ⟨1, ![1024]⟩

abbrev nBuf : Space → Nat
  | .hbm => 10
  | .vmem => 28
  | .smem => 0
  | _ => 0

abbrev bufTy : (tb : Table) → Fin (tcTables nBuf tb) → BufTy
  | .hbm, ⟨0, _⟩ => ⟨S4096x12288, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S4096x3072, .bf16⟩
  | .hbm, ⟨5, _⟩ => ⟨S4x3072, .f32⟩
  | .hbm, ⟨6, _⟩ => ⟨S12x4096x1024, .bf16⟩
  | .hbm, ⟨7, _⟩ => ⟨S12x4096x1024, .bf16⟩
  | .hbm, ⟨8, _⟩ => ⟨S8x3072, .f32⟩
  | .hbm, ⟨9, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S512x1024, .bf16⟩
  | .local _ .vmem, ⟨17, _⟩ => ⟨S512x1024, .bf16⟩
  | .local _ .vmem, ⟨18, _⟩ => ⟨S16x1024, .bf16⟩
  | .local _ .vmem, ⟨19, _⟩ => ⟨S16x1024, .bf16⟩
  | .local _ .vmem, ⟨20, _⟩ => ⟨S4x1024, .f32⟩
  | .local _ .vmem, ⟨21, _⟩ => ⟨S4x1024, .f32⟩
  | .local _ .vmem, ⟨22, _⟩ => ⟨S1x512x1024, .bf16⟩
  | .local _ .vmem, ⟨23, _⟩ => ⟨S1x512x1024, .bf16⟩
  | .local _ .vmem, ⟨24, _⟩ => ⟨S8x1024, .f32⟩
  | .local _ .vmem, ⟨25, _⟩ => ⟨S8x1024, .f32⟩
  | .local _ .vmem, ⟨26, _⟩ => ⟨S1x1024, .f32⟩
  | .local _ .vmem, ⟨27, _⟩ => ⟨S1x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let v3 : BitVec 32 := Scalar.minsi arg0 c1_i32_0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference11Ideal.lean ====
abbrev S4096x12288 : Shape := ⟨2, ![4096, 12288]⟩
abbrev S4096x2048 : Shape := ⟨2, ![4096, 2048]⟩
abbrev S4096x512 : Shape := ⟨2, ![4096, 512]⟩
abbrev S4096x3072 : Shape := ⟨2, ![4096, 3072]⟩
abbrev S4x3072 : Shape := ⟨2, ![4, 3072]⟩
abbrev S12x4096x1024 : Shape := ⟨3, ![12, 4096, 1024]⟩
abbrev S_ : Shape := ⟨0, ![]⟩
abbrev S3072 : Shape := ⟨1, ![3072]⟩
abbrev S3x3072 : Shape := ⟨2, ![3, 3072]⟩
abbrev S4099x3072 : Shape := ⟨2, ![4099, 3072]⟩
abbrev S1x3072 : Shape := ⟨2, ![1, 3072]⟩
abbrev S6x4096x1024 : Shape := ⟨3, ![6, 4096, 1024]⟩
abbrev S4096x3x1024 : Shape := ⟨3, ![4096, 3, 1024]⟩
abbrev S3x4096x1024 : Shape := ⟨3, ![3, 4096, 1024]⟩
abbrev S8x3072 : Shape := ⟨2, ![8, 3072]⟩

abbrev nBuf : Space → Nat
  | .hbm => 129
  | .vmem => 0
  | .smem => 0
  | _ => 0

abbrev hbmTy0_0 (i : Nat) : BufTy := match i % 128 with
  | 0 => ⟨S4096x12288, .f32⟩
  | 1 => ⟨S4096x2048, .bf16⟩
  | 2 => ⟨S4096x512, .bf16⟩
  | 3 => ⟨S4096x512, .bf16⟩
  | 4 => ⟨S4096x3072, .bf16⟩
  | 5 => ⟨S4x3072, .f32⟩
  | 6 => ⟨S12x4096x1024, .bf16⟩
  | 7 => ⟨S4096x3072, .bf16⟩
  | 8 => ⟨S4096x3072, .f32⟩
  | 9 => ⟨S4096x3072, .f32⟩
  | 10 => ⟨S4096x3072, .f32⟩
  | 11 => ⟨S4096x3072, .f32⟩
  | 12 => ⟨S_, .f32⟩
  | 13 => ⟨S3072, .f32⟩
  | 14 => ⟨S_, .f32⟩
  | 15 => ⟨S3x3072, .f32⟩
  | 16 => ⟨S4099x3072, .f32⟩
  | 17 => ⟨S_, .f32⟩
  | 18 => ⟨S3x3072, .f32⟩
  | 19 => ⟨S1x3072, .f32⟩
  | 20 => ⟨S3072, .f32⟩
  | 21 => ⟨S4096x3072, .f32⟩
  | 22 => ⟨S1x3072, .f32⟩
  | 23 => ⟨S4096x3072, .f32⟩
  | 24 => ⟨S4096x3072, .f32⟩
  | 25 => ⟨S_, .f32⟩
  | 26 => ⟨S4096x3072, .f32⟩
  | 27 => ⟨S4096x3072, .f32⟩
  | 28 => ⟨S1x3072, .f32⟩
  | 29 => ⟨S3072, .f32⟩
  | 30 => ⟨S4096x3072, .f32⟩
  | 31 => ⟨S1x3072, .f32⟩
  | 32 => ⟨S4096x3072, .f32⟩
  | 33 => ⟨S4096x3072, .f32⟩
  | 34 => ⟨S4096x3072, .f32⟩
  | 35 => ⟨S1x3072, .f32⟩
  | 36 => ⟨S3072, .f32⟩
  | 37 => ⟨S4096x3072, .f32⟩
  | 38 => ⟨S1x3072, .f32⟩
  | 39 => ⟨S4096x3072, .f32⟩
  | 40 => ⟨S4096x3072, .f32⟩
  | 41 => ⟨S4096x3072, .f32⟩
  | 42 => ⟨S1x3072, .f32⟩
  | 43 => ⟨S3072, .f32⟩
  | 44 => ⟨S4096x3072, .f32⟩
  | 45 => ⟨S1x3072, .f32⟩
  | 46 => ⟨S4096x3072, .f32⟩
  | 47 => ⟨S4096x3072, .f32⟩
  | 48 => ⟨S4096x3072, .f32⟩
  | 49 => ⟨S1x3072, .f32⟩
  | 50 => ⟨S4096x3072, .f32⟩
  | 51 => ⟨S4096x3072, .f32⟩
  | 52 => ⟨S_, .f32⟩
  | 53 => ⟨S3072, .f32⟩
  | 54 => ⟨S1x3072, .f32⟩
  | 55 => ⟨S_, .f32⟩
  | 56 => ⟨S3072, .f32⟩
  | 57 => ⟨S4096x3072, .f32⟩
  | 58 => ⟨S4096x3072, .f32⟩
  | 59 => ⟨S4096x3072, .f32⟩
  | 60 => ⟨S_, .f32⟩
  | 61 => ⟨S3072, .f32⟩
  | 62 => ⟨S1x3072, .f32⟩
  | 63 => ⟨S_, .f32⟩
  | 64 => ⟨S3072, .f32⟩
  | 65 => ⟨S_, .f32⟩
  | 66 => ⟨S4099x3072, .f32⟩
  | 67 => ⟨S1x3072, .f32⟩
  | 68 => ⟨S_, .f32⟩
  | 69 => ⟨S4x3072, .f32⟩
  | 70 => ⟨S4096x3072, .f32⟩
  | 71 => ⟨S4096x3072, .f32⟩
  | 72 => ⟨S4096x3072, .f32⟩
  | 73 => ⟨S_, .f32⟩
  | 74 => ⟨S3072, .f32⟩
  | 75 => ⟨S1x3072, .f32⟩
  | 76 => ⟨S_, .f32⟩
  | 77 => ⟨S3072, .f32⟩
  | 78 => ⟨S_, .f32⟩
  | 79 => ⟨S4099x3072, .f32⟩
  | 80 => ⟨S4099x3072, .f32⟩
  | 81 => ⟨S1x3072, .f32⟩
  | 82 => ⟨S_, .f32⟩
  | 83 => ⟨S4x3072, .f32⟩
  | 84 => ⟨S4x3072, .f32⟩
  | 85 => ⟨S4096x3072, .f32⟩
  | 86 => ⟨S4096x3072, .f32⟩
  | 87 => ⟨S4096x3072, .f32⟩
  | 88 => ⟨S_, .f32⟩
  | 89 => ⟨S3072, .f32⟩
  | 90 => ⟨S1x3072, .f32⟩
  | 91 => ⟨S_, .f32⟩
  | 92 => ⟨S3072, .f32⟩
  | 93 => ⟨S_, .f32⟩
  | 94 => ⟨S4099x3072, .f32⟩
  | 95 => ⟨S4099x3072, .f32⟩
  | 96 => ⟨S1x3072, .f32⟩
  | 97 => ⟨S_, .f32⟩
  | 98 => ⟨S4x3072, .f32⟩
  | 99 => ⟨S4x3072, .f32⟩
  | 100 => ⟨S4096x3072, .f32⟩
  | 101 => ⟨S4096x3072, .f32⟩
  | 102 => ⟨S4096x3072, .f32⟩
  | 103 => ⟨S_, .f32⟩
  | 104 => ⟨S3072, .f32⟩
  | 105 => ⟨S1x3072, .f32⟩
  | 106 => ⟨S_, .f32⟩
  | 107 => ⟨S3072, .f32⟩
  | 108 => ⟨S_, .f32⟩
  | 109 => ⟨S4099x3072, .f32⟩
  | 110 => ⟨S4099x3072, .f32⟩
  | 111 => ⟨S1x3072, .f32⟩
  | 112 => ⟨S_, .f32⟩
  | 113 => ⟨S4x3072, .f32⟩
  | 114 => ⟨S4x3072, .f32⟩
  | 115 => ⟨S3x3072, .f32⟩
  | 116 => ⟨S4096x3072, .f32⟩
  | 117 => ⟨S6x4096x1024, .bf16⟩
  | 118 => ⟨S6x4096x1024, .f32⟩
  | 119 => ⟨S4096x3x1024, .f32⟩
  | 120 => ⟨S3x4096x1024, .f32⟩
  | 121 => ⟨S3x4096x1024, .bf16⟩
  | 122 => ⟨S3x4096x1024, .f32⟩
  | 123 => ⟨S12x4096x1024, .f32⟩
  | 124 => ⟨S12x4096x1024, .bf16⟩
  | 125 => ⟨S_, .f32⟩
  | 126 => ⟨S4x3072, .f32⟩
  | 127 => ⟨S8x3072, .f32⟩
  | _ => ⟨S4096x12288, .f32⟩

abbrev hbmTy0_1 (i : Nat) : BufTy := match i % 128 with
  | 0 => ⟨S1x3072, .f32⟩
  | _ => ⟨S4096x12288, .f32⟩

abbrev hbmTy (i : Nat) : BufTy := match i / 128 with
  | 0 => hbmTy0_0 i
  | 1 => hbmTy0_1 i
  | _ => ⟨S4096x12288, .f32⟩

abbrev bufTy : (tb : Table) → Fin (tcTables nBuf tb) → BufTy
  | .hbm, ⟨i, _⟩ => hbmTy i
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_21 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]
-- ==== Kernel12.lean ====
abbrev S4096x12288 : Shape := ⟨2, ![4096, 12288]⟩
abbrev S4x3072 : Shape := ⟨2, ![4, 3072]⟩
abbrev S1x3072 : Shape := ⟨2, ![1, 3072]⟩
abbrev S4096x3072 : Shape := ⟨2, ![4096, 3072]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S520x1024 : Shape := ⟨2, ![520, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4096x12288 : Shape := ⟨2, ![4096, 12288]⟩
abbrev S4x3072 : Shape := ⟨2, ![4, 3072]⟩
abbrev S1x3072 : Shape := ⟨2, ![1, 3072]⟩
abbrev S4096x3072 : Shape := ⟨2, ![4096, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩

abbrev nBuf : Space → Nat
  | .hbm => 61
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S1x3072, .f32⟩
  | .hbm, ⟨9, _⟩ => ⟨S3072, .f32⟩
  | .hbm, ⟨10, _⟩ => ⟨S4096x3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S3072, .f32⟩
  | .hbm, ⟨19, _⟩ => ⟨S4096x3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S3072, .f32⟩
  | .hbm, ⟨26, _⟩ => ⟨S4096x3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S1x3072, .f32⟩
  | .hbm, ⟨32, _⟩ => ⟨S3072, .f32⟩
  | .hbm, ⟨33, _⟩ => ⟨S4096x3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S_, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S4096x3072, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_v37_0 : Ref sig .tc := ⟨.hbm, 56, rfl⟩
abbrev main_call0_v11 : Ref sig .tc := ⟨.hbm, 57, rfl⟩
abbrev main_call0_v12 : Ref sig .tc := ⟨.hbm, 58, rfl⟩
abbrev main_v37_1 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.GradInProj.lean ====
/- The weight gradient of the in-projection: what each grid point stores and what the result array holds. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradInProj

open Cert.Kernel2Ideal Cert.Kernel2Ideal.Gen Cert.Reference2Ideal.Read

variable (m : (ℓ : Loc nD τ sig) → Buf (Elt Ideal) ℓ)

/-- Every window's block index at every grid point. -/
theorem idx : ∀ t : Fin cfg0.N, win0_0.index t = ![t.val, 0, 0] ∧ win0_1.index t = ![0, 0]
    ∧ win0_2.index t = ![t.val, 0] :=
  (by decide +kernel : ∀ t : Fin grid0.N, _)

/-- What the body stores at index `y` of the block of point `t` is the reference at the array index `y` sits at. -/
theorem point (c : Dev nD) (t : Fin cfg0.N) (y) :
    k0_pay1 (iblk m c 0 t) (iblk m c 1 t) y
      = val_main_v10 (F := Ideal) (m ((c : Thread nD τ).loc main_arg0)) (m ((c : Thread nD τ).loc main_arg1))
          (((cfg0.win 2).blk t).view.emb y) := by
  pointwise [k0_pay1, val_main_v10, val_main_v9, val_main_v8, val_main_v7, val_main_v2, val_main_v1, val_main_v0, val_main_v3]
  blk_point [iblk, V, idx t]

/-- The result array after the run: the points' blocks tile it. -/
theorem final2 (c : Dev nD) : (dats m 0 c).arrAt 2 (cfgs 0).N
    = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.GradInProj

end
-- ==== Proof.GradInProjClaim.lean ====
/- The in-projection's weight gradient: the runs of the idealized kernel and of the reference, and the claim that they hold the same arrays. -/
module

public import proofs.«01_k».proof.Defs
public import proofs.«01_k».proof.Proof.Gen.Kernel2Ideal.Frame
public import proofs.«01_k».proof.Proof.Gen.Reference2Ideal.Run
public import proofs.«01_k».proof.Proof.Gen.Reference2Ideal.Read
public import proofs.«01_k».proof.Proof.GradInProj
public import Idealize.ShloMosaic.Adequacy
public import Idealize.ShloMosaic.Init

@[expose] public section

noncomputable section

namespace Cert.GradInProj

open Idealize.ShloMosaic Idealize.SL.Sem Idealize.ShloMosaic.TcCoe

/-- The reference's frame. -/
theorem frameReference : Cert.quiescent_Reference2Ideal (hReference2Ideal := Cert.Reference2Ideal.Gen.facts) :=
  fun m g _ => (θ_run _ _ _).mono (fun _ h => ⟨fun c => (h c).2, sem_eq_zero_of_no_sems (by decide) _⟩)
    (Cert.Reference2Ideal.Value.run m g)

section
open Cert.Kernel2Ideal Cert.Kernel2Ideal.Gen Cert.Reference2Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = val_main_v10 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end

attribute [local instance] Cert.Kernel2Ideal.Gen.facts Cert.Reference2Ideal.Gen.facts in
/-- The in-projection's weight gradient: kernel and reference hold the same arrays. -/
theorem agree : Cert.algebraic_Kernel2Ideal_Reference2Ideal := by
  intro m g m' g' _ hagree
  refine ⟨fun c => Cert.Reference2Ideal.Read.val_main_v10 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ?_) (kernelRun m g), (θ_run _ _ _).mono (fun r h c => ?_) (Cert.Reference2Ideal.Value.run m' g')⟩
  · exact h c
  · obtain ⟨h0, hargs⟩ := h c
    obtain ⟨e0, e1⟩ := hagree c
    refine ⟨h0.trans ?_, hargs⟩
    · beta_reduce; rw [← e0, ← e1]; exact Cert.Reference2Ideal.Read.val_main_v10_eq _ _

end Cert.GradInProj

end
-- ==== Proof.GradFfnIn.lean ====
/- The weight gradient of the FFN's two input products: what each grid point stores and what the result array holds. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradFfnIn

open Cert.Kernel3Ideal Cert.Kernel3Ideal.Gen Cert.Reference3Ideal.Read

variable (m : (ℓ : Loc nD τ sig) → Buf (Elt Ideal) ℓ)

/-- Every window's block index at every grid point. -/
theorem idx : ∀ t : Fin cfg0.N, win0_0.index t = ![t.val / 11, 0, t.val % 11] ∧ win0_1.index t = ![0, 0]
    ∧ win0_2.index t = ![t.val, 0] :=
  (by decide +kernel : ∀ t : Fin grid0.N, _)

/-- What the body stores at index `y` of the block of point `t` is the reference at the array index `y` sits at. -/
theorem point (c : Dev nD) (t : Fin cfg0.N) (y) :
    k0_pay1 (iblk m c 0 t) (iblk m c 1 t) y
      = val_main_v19 (F := Ideal) (m ((c : Thread nD τ).loc main_arg0)) (m ((c : Thread nD τ).loc main_arg1))
          (((cfg0.win 2).blk t).view.emb y) := by
  have ht : t.val < 22 := t.isLt
  have hy : (y 0).val < 256 := (y 0).isLt
  have e : ((cfg0.win 2).blk t).view.emb y = ix2 ⟨t.val * 256 + (y 0).val, by omega⟩ (y 1) := by
    blk_ext [idx t]
  rw [e]
  pointwise [k0_pay1, val_main_v19, val_main_v18, val_main_v17, val_main_v16, val_main_v15, val_main_v2, val_main_v1, val_main_v0, val_main_v6, val_main_v14, val_main_v13, val_main_v12, val_main_v5, val_main_v4, val_main_v3]
  blk_point [iblk, V, idx t] <;> omega

/-- The result array after the run: the points' blocks tile it. -/
theorem final2 (c : Dev nD) : (dats m 0 c).arrAt 2 (cfgs 0).N
    = val_main_v19 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.GradFfnIn

end
-- ==== Proof.GradFfnInClaim.lean ====
/- The weight gradient of the FFN's two input products: the runs of the idealized kernel and of the reference, and the claim that they hold the same arrays. -/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import proofs.«01_k».proof.Proof.GradFfnIn
public import Idealize.ShloMosaic.Adequacy
public import Idealize.ShloMosaic.Init

@[expose] public section

noncomputable section

namespace Cert.GradFfnIn

open Idealize.ShloMosaic Idealize.SL.Sem Idealize.ShloMosaic.TcCoe

/-- The reference's frame. -/
theorem frameReference : Cert.quiescent_Reference3Ideal (hReference3Ideal := Cert.Reference3Ideal.Gen.facts) :=
  fun m g _ => (θ_run _ _ _).mono (fun _ h => ⟨fun c => (h c).2, sem_eq_zero_of_no_sems (by decide) _⟩)
    (Cert.Reference3Ideal.Value.run m g)

section
open Cert.Kernel3Ideal Cert.Kernel3Ideal.Gen Cert.Reference3Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = val_main_v19 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end

attribute [local instance] Cert.Kernel3Ideal.Gen.facts Cert.Reference3Ideal.Gen.facts in
/-- The weight gradient of the FFN's two input products: kernel and reference hold the same arrays. -/
theorem agree : Cert.algebraic_Kernel3Ideal_Reference3Ideal := by
  intro m g m' g' _ hagree
  refine ⟨fun c => Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun r h c => ?_) (kernelRun m g), (θ_run _ _ _).mono (fun r h c => ?_) (Cert.Reference3Ideal.Value.run m' g')⟩
  · exact h c
  · obtain ⟨h0, hargs⟩ := h c
    obtain ⟨e0, e1⟩ := hagree c
    refine ⟨h0.trans ?_, hargs⟩
    · beta_reduce; rw [← e0, ← e1]; exact Cert.Reference3Ideal.Read.val_main_v19_eq _ _

end Cert.GradFfnIn

end
-- ==== Proof.GradFfnDown.lean ====
/- The weight gradient of the FFN's output product: what each grid point stores and what the result array holds. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradFfnDown

open Cert.Kernel4Ideal Cert.Kernel4Ideal.Gen Cert.Reference4Ideal.Read

variable (m : (ℓ : Loc nD τ sig) → Buf (Elt Ideal) ℓ)

/-- Every window's block index at every grid point. -/
theorem idx : ∀ t : Fin cfg0.N, win0_0.index t = ![0, t.val]
    ∧ win0_1.index t = ![0, 0]
    ∧ win0_2.index t = ![t.val, 0] :=
  (by decide +kernel : ∀ t : Fin grid0.N, _)

/-- What the body stores at index `y` of the block of point `t` is the reference at the array index `y` sits at. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6, val_main_v5, val_main_v4, val_main_v1, val_main_v0]
  refine Finset.sum_congr rfl fun k _ => (?_ : _ = _).trans (mul_comm (G := EReal) _ _)
  blk_point [iblk, V, idx t]

/-- The result array after the run: the points' blocks tile it. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.GradFfnDown

end
-- ==== Proof.GradFfnDownClaim.lean ====
/- The weight gradient of the FFN's output product: the runs of the idealized kernel and of the reference, and the claim that they hold the same arrays. -/
module

public import proofs.«01_k».proof.Defs
public import proofs.«01_k».proof.Proof.Gen.Kernel4Ideal.Frame
public import proofs.«01_k».proof.Proof.Gen.Reference4Ideal.Run
public import proofs.«01_k».proof.Proof.Gen.Reference4Ideal.Read
public import proofs.«01_k».proof.Proof.GradFfnDown
public import Idealize.ShloMosaic.Adequacy
public import Idealize.ShloMosaic.Init

@[expose] public section

noncomputable section

namespace Cert.GradFfnDown

open Idealize.ShloMosaic Idealize.SL.Sem Idealize.ShloMosaic.TcCoe

/-- The reference's frame. -/
theorem frameReference : Cert.quiescent_Reference4Ideal (hReference4Ideal := Cert.Reference4Ideal.Gen.facts) :=
  fun m g _ => (θ_run _ _ _).mono (fun _ h => ⟨fun c => (h c).2, sem_eq_zero_of_no_sems (by decide) _⟩)
    (Cert.Reference4Ideal.Value.run m g)

section
open Cert.Kernel4Ideal Cert.Kernel4Ideal.Gen Cert.Reference4Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end

attribute [local instance] Cert.Kernel4Ideal.Gen.facts Cert.Reference4Ideal.Gen.facts in
/-- The weight gradient of the FFN's output product: kernel and reference hold the same arrays. -/
theorem agree : Cert.algebraic_Kernel4Ideal_Reference4Ideal := by
  intro m g m' g' _ hagree
  refine ⟨fun c => Cert.Reference4Ideal.Read.val_main_v6 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun r h c => ?_) (kernelRun m g), (θ_run _ _ _).mono (fun r h c => ?_) (Cert.Reference4Ideal.Value.run m' g')⟩
  · exact h c
  · obtain ⟨h0, hargs⟩ := h c
    obtain ⟨e0, e1⟩ := hagree c
    refine ⟨h0.trans ?_, hargs⟩
    · beta_reduce; rw [← e0, ← e1]; exact Cert.Reference4Ideal.Read.val_main_v6_eq _ _

end Cert.GradFfnDown

end
-- ==== Proof.FfnInAct.lean ====
/- The FFN's first half (both input products and the gated activation): what each grid point stores and what the result arrays hold. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnInAct

open Cert.Kernel5Ideal Cert.Kernel5Ideal.Gen Cert.Reference5Ideal.Read

variable (m : (ℓ : Loc nD τ sig) → Buf (Elt Ideal) ℓ)

/-- Every window's block index at every grid point. -/
theorem idx : ∀ t : Fin cfg0.N, win0_0.index t = ![t.val % 8, 0] ∧ win0_1.index t = ![t.val / 8, 0, 0] ∧ win0_2.index t = ![t.val / 8, 1, 0]
    ∧ win0_3.index t = ![0, t.val % 8, t.val / 8]
    ∧ win0_4.index t = ![t.val % 8, t.val / 8] :=
  (by decide +kernel : ∀ t : Fin grid0.N, _)

/-- The gate weights a grid point reads: four shards' rows of the gathered array. -/
theorem gate_at (c : Dev nD) (t : Fin cfg0.N) (y : S4x352x1024.Idx) : X0_1 m c t y
    = m ((c : Thread nD τ).loc main_arg1) (ix3 ⟨t.val / 8 * 4 + (y 0).val, by have := t.isLt; have : t.val < 16 := this; have : (y 0).val < 4 := (y 0).isLt; omega⟩
        ⟨0 + (y 1).val, by have : (y 1).val < 352 := (y 1).isLt; omega⟩ (y 2)) := by
  unfold X0_1 Pipeline.Window.fill
  rw [dif_pos (moved0_1 t y)]
  blk_point [iblk, V, idx t]

/-- The up weights a grid point reads: four shards' rows of the gathered array. -/
theorem up_at (c : Dev nD) (t : Fin cfg0.N) (y : S4x352x1024.Idx) : X0_2 m c t y
    = m ((c : Thread nD τ).loc main_arg1) (ix3 ⟨t.val / 8 * 4 + (y 0).val, by have := t.isLt; have : t.val < 16 := this; have : (y 0).val < 4 := (y 0).isLt; omega⟩
        ⟨352 + (y 1).val, by have : (y 1).val < 352 := (y 1).isLt; omega⟩ (y 2)) := by
  unfold X0_2 Pipeline.Window.fill
  rw [dif_pos (moved0_2 t y)]
  blk_point [iblk, V, idx t]

/-- The block's first plane: the gate product. -/
theorem gate_point (c : Dev nD) (t : Fin cfg0.N) (y : S1x512x1408.Idx) : k0_pay3 (iblk m c 0 t) (X0_1 m c t) y
    = val_main_v14 (F := Ideal) (m ((c : Thread nD τ).loc main_arg0)) (m ((c : Thread nD τ).loc main_arg1)) (ix3 (0 : Fin 2) ⟨t.val % 8 * 512 + (y 1).val, by have : (y 1).val < 512 := (y 1).isLt; omega⟩
        ⟨t.val / 8 * 1408 + (y 2).val, by have := t.isLt; have : t.val < 16 := this; have : (y 2).val < 1408 := (y 2).isLt; omega⟩) := by
  pointwise [k0_pay3, k0_pay1, val_main_v14, val_main_v13, val_main_v11, val_main_v5, val_main_v0, val_main_v4, val_main_v3, val_main_v2, val_main_v1, val_main_v12, val_main_v10, val_main_v9, val_main_v8, val_main_v7, val_main_v6]
  simp only [gate_at]
  blk_point [iblk, V, idx t]

/-- The block's second plane: the up product. -/
theorem up_point (c : Dev nD) (t : Fin cfg0.N) (y : S1x512x1408.Idx) : k0_pay4 (iblk m c 0 t) (X0_2 m c t) y
    = val_main_v14 (F := Ideal) (m ((c : Thread nD τ).loc main_arg0)) (m ((c : Thread nD τ).loc main_arg1)) (ix3 (1 : Fin 2) ⟨t.val % 8 * 512 + (y 1).val, by have : (y 1).val < 512 := (y 1).isLt; omega⟩
        ⟨t.val / 8 * 1408 + (y 2).val, by have := t.isLt; have : t.val < 16 := this; have : (y 2).val < 1408 := (y 2).isLt; omega⟩) := by
  pointwise [k0_pay4, k0_pay2, val_main_v14, val_main_v13, val_main_v11, val_main_v5, val_main_v0, val_main_v4, val_main_v3, val_main_v2, val_main_v1, val_main_v12, val_main_v10, val_main_v9, val_main_v8, val_main_v7, val_main_v6]
  simp only [up_at]
  blk_point [iblk, V, idx t]

/-- The activation's block: silu of the gate product times the up product. -/
theorem act_point (c : Dev nD) (t : Fin cfg0.N) (y : S512x1408.Idx) : k0_pay5 (iblk m c 0 t) (X0_1 m c t) (X0_2 m c t) y
    = val_main_v17 (F := Ideal) (m ((c : Thread nD τ).loc main_arg0)) (m ((c : Thread nD τ).loc main_arg1)) (((cfg0.win 4).blk t).view.emb y) := by
  pointwise [k0_pay5, k0_pay1, k0_pay2, zero_sub, val_main_v17, val_main_v16, val_main_v15, val_main_v5, val_main_v0, val_main_v4, val_main_v3, val_main_v2, val_main_v1, val_main_call0_v5, val_main_call0_v4, val_main_call0_cst_0, val_main_call0_v3, val_main_call0_v2, val_main_call0_cst, val_main_call0_v1, val_main_call0_v0, val_main_v10, val_main_v9, val_main_v8, val_main_v7, val_main_v6]
  simp only [gate_at, up_at]
  blk_point [iblk, V, idx t]

/-- The array of both products after the run. -/
theorem final3 (c : Dev nD) : (dats m 0 c).arrAt 3 (cfgs 0).N
    = val_main_v14 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  canon_tiles x h
  · exact (up_point m c t x).trans (congrArg _ (by blk_ext [idx t] <;> omega))
  · exact (gate_point m c t x).trans (congrArg _ (by blk_ext [idx t] <;> omega))

/-- The activation's array after the run. -/
theorem final4 (c : Dev nD) : (dats m 0 c).arrAt 4 (cfgs 0).N
    = val_main_v17 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  frame_out
  exact act_point m c t y

end Cert.FfnInAct

end
-- ==== Proof.FfnInActClaim.lean ====
/- The FFN's first half: the runs of the idealized kernel and of the reference, and the claim that they hold the same arrays. -/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import proofs.«01_k».proof.Proof.FfnInAct
public import Idealize.ShloMosaic.Adequacy
public import Idealize.ShloMosaic.Init

@[expose] public section

noncomputable section

namespace Cert.FfnInAct

open Idealize.ShloMosaic Idealize.SL.Sem Idealize.ShloMosaic.TcCoe

/-- The reference's frame. -/
theorem frameReference : Cert.quiescent_Reference5Ideal (hReference5Ideal := Cert.Reference5Ideal.Gen.facts) :=
  fun m g _ => (θ_run _ _ _).mono (fun _ h => ⟨fun c => (h c).2.2, sem_eq_zero_of_no_sems (by decide) _⟩)
    (Cert.Reference5Ideal.Value.run m g)

section
open Cert.Kernel5Ideal Cert.Kernel5Ideal.Gen Cert.Reference5Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = val_main_v14 (F := Ideal) (m ((c.tc : Thread nD τ).loc main_arg0)) (m ((c.tc : Thread nD τ).loc main_arg1))
      ∧ r.2.mem ((c.tc : Thread nD τ).loc main_v0_1) = val_main_v17 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 3).trans (final3 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end

attribute [local instance] Cert.Kernel5Ideal.Gen.facts Cert.Reference5Ideal.Gen.facts in
/-- The FFN's first half: kernel and reference hold the same arrays. -/
theorem agree : Cert.algebraic_Kernel5Ideal_Reference5Ideal := by
  intro m g m' g' _ hagree
  refine ⟨fun c => Cert.Reference5Ideal.Read.val_main_v14 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    fun c => Cert.Reference5Ideal.Read.val_main_v17 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run _ _ _).mono (fun r h c => ?_) (kernelRun m g), (θ_run _ _ _).mono (fun r h c => ?_) (Cert.Reference5Ideal.Value.run m' g')⟩
  · exact h c
  · obtain ⟨h0, h1, hargs⟩ := h c
    obtain ⟨e0, e1⟩ := hagree c
    refine ⟨h0.trans ?_, h1.trans ?_, hargs⟩
    · beta_reduce; rw [← e0, ← e1]; exact Cert.Reference5Ideal.Read.val_main_v14_eq _ _
    · beta_reduce; rw [← e0, ← e1]; exact Cert.Reference5Ideal.Read.val_main_v17_eq _ _

end Cert.FfnInAct

end
-- ==== Proof.Finite.lean ====
/- Reading a finiteness precondition: where every magnitude is below +∞, every entry is a real number; and sums, products and
   logistic values of real numbers are real numbers. -/
module

public import Idealize.ShloMosaic.Lib.ReduceAll
public import Idealize.ShloMosaic.Lib.KernelVsHost
public import Idealize.ShloMosaic.Lib.Pipeline.ValueKit

@[expose] public section

noncomputable section

open Idealize.ShloMosaic
open scoped BigOperators

namespace Cert.Finite

/-- `x` is a real number. -/
def IsReal (x : EReal) : Prop := ∃ r : ℝ, x = (r : EReal)

theorem IsReal.coe (r : ℝ) : IsReal (r : EReal) := ⟨r, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.neg {x : EReal} (hx : IsReal x) : IsReal (-x) := by
  obtain ⟨a, rfl⟩ := hx; exact ⟨-a, by norm_cast⟩

theorem IsReal.mul {x y : EReal} (hx : IsReal x) (hy : IsReal y) : IsReal (x * y) := by
  obtain ⟨a, rfl⟩ := hx; obtain ⟨b, rfl⟩ := hy; exact ⟨a * b, by norm_cast⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The logistic of a real number. -/
theorem IsReal.logistic (g : ℝ) : IsReal (Ideal.div 1 (1 + Ideal.exp (-(g : EReal)))) := by
  rw [← EReal.coe_neg, Ideal.exp_coe, ← EReal.coe_one, ← EReal.coe_add, Ideal.div_coe (by positivity)]
  exact (IsReal.coe _).mul (IsReal.coe _)

/-- A value whose magnitude is below +∞ is a real number. -/
theorem isReal_of_lt (x : Ideal .f32)
    (h : FloatOps.cmpf .olt (FloatOps.hostAbsf x) (FloatOps.ofBits (F := Ideal) .f32 0x7F800000#32) = 1#1) : IsReal x := by
  have htop : FloatOps.ofBits (F := Ideal) .f32 0x7F800000#32 = (⊤ : EReal) := by
    show Ideal.ofBits .f32 0x7F800000#32 = ⊤
    simp [Ideal.ofBits, Ideal.ieee]
  rw [htop] at h
  change Ideal.cmp .olt (max (x : EReal) (-(x : EReal))) ⊤ = 1#1 at h
  have hlt : max (x : EReal) (-(x : EReal)) < ⊤ := by
    by_contra hn
    simp [Ideal.cmp, hn] at h
  obtain ⟨h1, h2⟩ := max_lt_iff.1 hlt
  induction x using EReal.rec with
  | bot => simp at h2
  | top => simp at h1
  | coe r => exact ⟨r, rfl⟩

/-- Every entry of an array is a real number, read off `jnp.all(jnp.abs(x) < jnp.inf)`. -/
theorem entries {s t u v : Shape} {axes : List (Fin s.rank)} [Subsingleton t.Idx] (x : FVec Ideal s .f32)
    (f : Fin v.rank → Fin s.rank) (bc : v.BroadcastsInDim s f) (init : u.Idx → BitVec 1) (h : s.ReducesTo axes t) (hu : 0 < u.numel) (j : t.Idx)
    (e : Host.reduce IntOp.andi (cmpf .olt (Host.absf x) (broadcastInDim s f bc (constant v .f32 0x7F800000#32))) init h hu j = 1#1)
    (i : s.Idx) : IsReal (x i) :=
  isReal_of_lt (x i) (Host.reduce_andi_all _ init h hu j e i)

end Cert.Finite

end
-- ==== Proof.FfnActBwd.lean ====
/- The backward of the FFN's gated activation. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)
open Cert.Finite (IsReal)
open scoped BigOperators

namespace Cert.FfnActBwd

open Cert.Kernel6Ideal Cert.Kernel6Ideal.Gen Cert.Reference6Ideal.Read

variable (m : (ℓ : Loc nD τ sig) → Buf (Elt Ideal) ℓ)

/-- Every window's block index at every grid point. -/
theorem idx : ∀ t : Fin cfg0.N, win0_0.index t = ![t.val % 8, 0] ∧ win0_1.index t = ![t.val / 8, 2, 0]
    ∧ win0_2.index t = ![0, t.val % 8, t.val / 8]
    ∧ win0_3.index t = ![0, t.val % 8, t.val / 8] :=
  (by decide +kernel : ∀ t : Fin grid0.N, _)

/-- On device `c` the entries of the arrays the precondition names are real numbers. -/
def Entries (c : Dev nD) : Prop :=
  (∀ i, IsReal (m ((c : Thread nD τ).loc main_arg0) i))
    ∧ (∀ i, IsReal (m ((c : Thread nD τ).loc main_arg1) i))
    ∧ (∀ i, IsReal (m ((c : Thread nD τ).loc main_arg2) i))

/-- Row `r` of the tile of point `t`, as a token. -/
def tok (t : Fin cfg0.N) (r : Fin 512) : Fin 4096 := ⟨t.val % 8 * 512 + r.val, by have := r.isLt; omega⟩

/-- Column `q` of the tile of point `t`, as a column of the FFN. -/
def col (t : Fin cfg0.N) (q : Fin 1408) : Fin 2816 :=
  ⟨t.val / 8 * 1408 + q.val, by have := t.isLt; have h : t.val < 16 := this; have := q.isLt; omega⟩

/-- The output product's weights a grid point reads: four shards' rows of the gathered array. -/
theorem down_at (c : Dev nD) (t : Fin cfg0.N) (y : S4x352x1024.Idx) : X0_1 m c t y
    = m ((c : Thread nD τ).loc main_arg1) (ix3 ⟨t.val / 8 * 4 + (y 0).val, by have := t.isLt; have : t.val < 16 := this; have : (y 0).val < 4 := (y 0).isLt; omega⟩
        ⟨704 + (y 1).val, by have : (y 1).val < 352 := (y 1).isLt; omega⟩ (y 2)) := by
  unfold X0_1 Pipeline.Window.fill
  rw [dif_pos (moved0_1 t y)]
  blk_point [iblk, V, idx t]

/-- The gradient of the activation: the product with the weights. -/
theorem dact (c : Dev nD) (t : Fin cfg0.N) (r : Fin 512) (q : Fin 1408) : k0_pay2 (F := Ideal) (iblk m c 0 t) (X0_1 m c t) (ix2 r q)
    = val_main_v13 (F := Ideal) (m ((c : Thread nD τ).loc main_arg0)) (m ((c : Thread nD τ).loc main_arg1)) (ix2 (tok t r) (col t q)) := by
  pointwise [k0_pay2, tok, col, val_main_v13, val_main_v12, val_main_v2, val_main_v1, val_main_v0]
  simp only [down_at]
  blk_point [iblk, V, idx t]

/-- The saved gate product. -/
theorem gate (c : Dev nD) (t : Fin cfg0.N) (r : Fin 512) (q : Fin 1408) : k0_pay3 (F := Ideal) (View.ld (iblk m c 2 t) (Rect.unit ![0, 0, 0] ![1, 512, 1408] inb_S2x512x1408_S1x512x1408_0_0_0)) (ix2 r q)
    = val_main_v5 (F := Ideal) (m ((c : Thread nD τ).loc main_arg2)) (ix2 (tok t r) (col t q)) := by
  pointwise [k0_pay3, tok, col, val_main_v5, val_main_v4, val_main_v3]
  blk_point [iblk, V, idx t]

/-- Its logistic. -/
theorem logistic (c : Dev nD) (t : Fin cfg0.N) (r : Fin 512) (q : Fin 1408) : k0_pay4 (F := Ideal) (View.ld (iblk m c 2 t) (Rect.unit ![0, 0, 0] ![1, 512, 1408] inb_S2x512x1408_S1x512x1408_0_0_0)) (ix2 r q)
    = val_main_v9_2 (F := Ideal) (m ((c : Thread nD τ).loc main_arg2)) (ix2 (tok t r) (col t q)) := by
  pointwise [k0_pay4, zero_sub, val_main_v9_2, val_main_call0_v4, val_main_call0_cst_0, val_main_call0_v3, val_main_call0_v2, val_main_call0_cst, val_main_call0_v1, val_main_call0_v0]
  simp only [gate]

/-- The saved up product. -/
theorem up (c : Dev nD) (t : Fin cfg0.N) (r : Fin 512) (q : Fin 1408) :
    iblk (F := Ideal) m c 2 t (ix3 (1 : Fin 2) r q) = val_main_v8 (F := Ideal) (m ((c : Thread nD τ).loc main_arg2)) (ix2 (tok t r) (col t q)) := by
  pointwise [tok, col, val_main_v8, val_main_v7, val_main_v6]
  blk_point [iblk, V, idx t]

/-- The activation's gradient is a real number. -/
theorem dact_real (c : Dev nD) (h : Entries m c) (r : Fin 4096) (q : Fin 2816) : IsReal (val_main_v13 (F := Ideal) (m ((c : Thread nD τ).loc main_arg0)) (m ((c : Thread nD τ).loc main_arg1)) (ix2 r q)) := by
  pointwise [val_main_v13, val_main_v12, val_main_v2, val_main_v1, val_main_v0]
  exact IsReal.sum _ _ fun k _ => (h.1 _).mul (h.2.1 _)

/-- The up product is a real number. -/
theorem up_real (c : Dev nD) (h : Entries m c) (r : Fin 4096) (q : Fin 2816) : IsReal (val_main_v8 (F := Ideal) (m ((c : Thread nD τ).loc main_arg2)) (ix2 r q)) := by
  pointwise [val_main_v8, val_main_v7, val_main_v6]
  exact h.2.2 _

/-- The gate product is a real number. -/
theorem gate_real (c : Dev nD) (h : Entries m c) (r : Fin 4096) (q : Fin 2816) : IsReal (val_main_v5 (F := Ideal) (m ((c : Thread nD τ).loc main_arg2)) (ix2 r q)) := by
  pointwise [val_main_v5, val_main_v4, val_main_v3]
  exact h.2.2 _

/-- The logistic of the gate product is a real number. -/
theorem logistic_real (c : Dev nD) (h : Entries m c) (r : Fin 4096) (q : Fin 2816) : IsReal (val_main_v9_2 (F := Ideal) (m ((c : Thread nD τ).loc main_arg2)) (ix2 r q)) := by
  pointwise [val_main_v9_2, val_main_call0_v4, val_main_call0_cst_0, val_main_call0_v3, val_main_call0_v2, val_main_call0_cst, val_main_call0_v1, val_main_call0_v0]
  obtain ⟨g, hg⟩ := gate_real m c h r q
  rw [hg]
  exact IsReal.logistic g

/-- The gradient of the gate product at a point. -/
theorem dgate (c : Dev nD) (h : Entries m c) (t : Fin cfg0.N) (r : Fin 512) (q : Fin 1408) :
    k0_pay5 (iblk m c 0 t) (X0_1 m c t) (View.ld (iblk m c 2 t) (Rect.unit ![0, 0, 0] ![1, 512, 1408] inb_S2x512x1408_S1x512x1408_0_0_0)) (View.ld (iblk m c 2 t) (Rect.unit ![1, 0, 0] ![1, 512, 1408] inb_S2x512x1408_S1x512x1408_1_0_0)) (ix3 (0 : Fin 1) r q)
    = val_main_v16 (F := Ideal) (m ((c : Thread nD τ).loc main_arg0)) (m ((c : Thread nD τ).loc main_arg1)) (m ((c : Thread nD τ).loc main_arg2)) (ix2 (tok t r) (col t q)) := by
  pointwise [k0_pay5, val_main_v16, val_main_call1_v1, val_main_v15, val_main_call1_v2, val_main_call1_v0, val_main_v9_1, val_main_call0_v7, val_main_call0_v6, val_main_call0_cst_1]
  simp only [dact, gate, logistic, up]
  obtain ⟨p, hp⟩ := dact_real m c h (tok t r) (col t q)
  obtain ⟨u, hu⟩ := up_real m c h (tok t r) (col t q)
  obtain ⟨g, hg⟩ := gate_real m c h (tok t r) (col t q)
  obtain ⟨s, hs⟩ := logistic_real m c h (tok t r) (col t q)
  rw [hp, hu, hg, hs]
  norm_cast
  ring

/-- The gradient of the up product at a point. -/
theorem dup (c : Dev nD) (t : Fin cfg0.N) (r : Fin 512) (q : Fin 1408) :
    k0_pay1 (F := Ideal) (k0_pay6 (iblk m c 0 t) (X0_1 m c t) (View.ld (iblk m c 2 t) (Rect.unit ![0, 0, 0] ![1, 512, 1408] inb_S2x512x1408_S1x512x1408_0_0_0))) (ix3 (0 : Fin 1) r q)
    = val_main_v14 (F := Ideal) (m ((c : Thread nD τ).loc main_arg0)) (m ((c : Thread nD τ).loc main_arg1)) (m ((c : Thread nD τ).loc main_arg2)) (ix2 (tok t r) (col t q)) := by
  pointwise [k0_pay1, k0_pay6, val_main_v14, val_main_v9_0]
  simp only [dact, gate, logistic]
  exact (mul_assoc (G := EReal) _ _ _).trans (mul_comm (G := EReal) _ _)

/-- The result's first plane is the gradient of the gate product. -/
theorem plane0 (c : Dev nD) (r : Fin 4096) (q : Fin 2816) : val_main_v20 (F := Ideal) (m ((c : Thread nD τ).loc main_arg0)) (m ((c : Thread nD τ).loc main_arg1)) (m ((c : Thread nD τ).loc main_arg2)) (ix3 (0 : Fin 2) r q)
    = val_main_v16 (F := Ideal) (m ((c : Thread nD τ).loc main_arg0)) (m ((c : Thread nD τ).loc main_arg1)) (m ((c : Thread nD τ).loc main_arg2)) (ix2 r q) := by
  pointwise [val_main_v20, val_main_v19, val_main_v17, val_main_v18]

/-- Its second plane is the gradient of the up product. -/
theorem plane1 (c : Dev nD) (r : Fin 4096) (q : Fin 2816) : val_main_v20 (F := Ideal) (m ((c : Thread nD τ).loc main_arg0)) (m ((c : Thread nD τ).loc main_arg1)) (m ((c : Thread nD τ).loc main_arg2)) (ix3 (1 : Fin 2) r q)
    = val_main_v14 (F := Ideal) (m ((c : Thread nD τ).loc main_arg0)) (m ((c : Thread nD τ).loc main_arg1)) (m ((c : Thread nD τ).loc main_arg2)) (ix2 r q) := by
  pointwise [val_main_v20, val_main_v19, val_main_v17, val_main_v18]

/-- The array after the run. -/
theorem final3 (c : Dev nD) (he : Entries m c) : (dats m 0 c).arrAt 3 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  canon_tiles x h
  · have ex : x = ix3 (0 : Fin 1) (x 1) (x 2) := by blk_ext [] <;> omega
    have e : ((View.whole main_v0).slice (win0_3.rect t)).emb y = ix3 (1 : Fin 2) (tok t (x 1)) (col t (x 2)) := by blk_ext [idx t, tok, col] <;> omega
    rw [e, plane1, ex]
    exact dup m c t (x 1) (x 2)
  · have ex : x = ix3 (0 : Fin 1) (x 1) (x 2) := by blk_ext [] <;> omega
    have e : ((View.whole main_v0).slice (win0_3.rect t)).emb y = ix3 (0 : Fin 2) (tok t (x 1)) (col t (x 2)) := by blk_ext [idx t, tok, col] <;> omega
    rw [e, plane0, ex]
    exact dgate m c he t (x 1) (x 2)

end Cert.FfnActBwd

end
-- ==== Proof.FfnActBwdClaim.lean ====
/- The backward of the FFN's gated activation: the runs of the idealized kernel and of the reference, and the claim that they hold the same arrays. -/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import proofs.«01_k».proof.Proof.FfnActBwd
public import Idealize.ShloMosaic.Adequacy
public import Idealize.ShloMosaic.Init

@[expose] public section

noncomputable section

namespace Cert.FfnActBwd

open Idealize.ShloMosaic Idealize.SL.Sem Idealize.ShloMosaic.TcCoe

/-- The reference's frame. -/
theorem frameReference : Cert.quiescent_Reference6Ideal (hReference6Ideal := Cert.Reference6Ideal.Gen.facts) :=
  fun m g _ => (θ_run _ _ _).mono (fun _ h => ⟨fun c => (h c).2, sem_eq_zero_of_no_sems (by decide) _⟩)
    (Cert.Reference6Ideal.Value.run m g)

/-- The side conditions of the precondition. -/
theorem ffnActBwdFacts : Cert.Pre_finite_act.Facts := by
  constructor <;> decide

instance : Subsingleton Cert.Pre_finite_act.S_.Idx := ⟨fun _ _ => funext fun i => i.elim0⟩

attribute [local instance] ffnActBwdFacts in
open Cert.Pre_finite_act in
/-- The precondition says that the entries are real numbers. -/
theorem entries (m : (ℓ : Loc Cert.Kernel6Ideal.nD Cert.Kernel6Ideal.τ Cert.Kernel6Ideal.sig) → Buf (Elt Ideal) ℓ)
    (h : Cert.Pre_Kernel6Ideal m) (c : Dev Cert.Kernel6Ideal.nD) : Entries m c := by
  have e := congrFun (h c) (fun i => i.elim0)
  dsimp only [Cert.Pre_finite_act.fn] at e
  have e0 := e
  have e1 := (IntOp.andi_eq_one.1 e0).1
  have e2 := (IntOp.andi_eq_one.1 e1).1
  exact ⟨fun i => Finite.entries (extf .f32 (m ((c.tc : Thread Cert.Kernel6Ideal.nD Cert.Kernel6Ideal.τ).loc Cert.Kernel6Ideal.main_arg0)) Facts.bitsLt_bf16_f32) _ _ _ _ _ _ e2 i,
    fun i => Finite.entries (extf .f32 (m ((c.tc : Thread Cert.Kernel6Ideal.nD Cert.Kernel6Ideal.τ).loc Cert.Kernel6Ideal.main_arg1)) Facts.bitsLt_bf16_f32) _ _ _ _ _ _ (IntOp.andi_eq_one.1 e1).2 i,
    fun i => Finite.entries (extf .f32 (m ((c.tc : Thread Cert.Kernel6Ideal.nD Cert.Kernel6Ideal.τ).loc Cert.Kernel6Ideal.main_arg2)) Facts.bitsLt_bf16_f32) _ _ _ _ _ _ (IntOp.andi_eq_one.1 e0).2 i⟩

section
open Cert.Kernel6Ideal Cert.Kernel6Ideal.Gen Cert.Reference6Ideal.Read

/-- The idealized kernel's run: each result at the reference's function of the arguments, and the arguments unchanged. -/
theorem kernelRun (m : (ℓ : Loc nD τ sig) → Buf (Elt Ideal) ℓ) (ρ : Dev nD → PrngReg)
    (h0 : ∀ c : Dev nD, Entries m c) :
    θ_run (defs (F := Ideal)) (onTc (τ := τ) (main (F := Ideal))) ⟨m, fun _ => 0, ρ⟩ fun r => ∀ c : Dev nD,
      r.2.mem ((c.tc : Thread nD τ).loc main_v0) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final3 m c (h0 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end

attribute [local instance] Cert.Kernel6Ideal.Gen.facts Cert.Reference6Ideal.Gen.facts ffnActBwdFacts in
/-- The backward of the FFN's gated activation: kernel and reference hold the same arrays. -/
theorem agree : Cert.algebraic_Kernel6Ideal_Reference6Ideal := by
  intro m g m' g' hpre hagree
  refine ⟨fun c => Cert.Reference6Ideal.Read.val_main_v20 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run _ _ _).mono (fun r h c => ?_) (kernelRun m g (entries m hpre)), (θ_run _ _ _).mono (fun r h c => ?_) (Cert.Reference6Ideal.Value.run m' g')⟩
  · exact h c
  · obtain ⟨h0, hargs⟩ := h c
    obtain ⟨e0, e1, e2⟩ := hagree c
    refine ⟨h0.trans ?_, hargs⟩
    · beta_reduce; rw [← e0, ← e1, ← e2]; exact Cert.Reference6Ideal.Read.val_main_v20_eq _ _ _

end Cert.FfnActBwd

end
-- ==== Proof.MixerTail.lean ====
/- The mixer's tail. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixerTail

open Cert.Kernel7Ideal Cert.Kernel7Ideal.Gen Cert.Reference7Ideal.Read

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 10]
    ∧ win0_5.index t = ![t.val, 11]
    ∧ win0_6.index t = ![0, 0]
    ∧ win0_7.index t = ![t.val, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0] :=
  (by decide +kernel : ∀ t : Fin grid0.N, _)

/-- Row `r` of the tile of point `t`, as a token. -/
def tok (t : Fin cfg0.N) (r : Fin 256) : Fin 4096 :=
  ⟨t.val * 256 + r.val, by have := t.isLt; have h : t.val < 16 := this; have := r.isLt; omega⟩

/-- Branch a's projection of a row. -/
theorem ya (c : Dev nD) (t : Fin cfg0.N) (r : Fin 256) (q : Fin 1024) : k0_pay2 (F := Ideal) (iblk m c 0 t) (iblk m c 2 t) (ix2 r q)
    = val_main_v5 (F := Ideal) (m ((c : Thread nD τ).loc main_arg0)) (m ((c : Thread nD τ).loc main_arg2)) (ix2 (tok t r) q) := by
  pointwise [k0_pay2, tok, val_main_v5, val_main_v0, val_main_v2]
  blk_point [iblk, V, idx t]

/-- Branch b's projection of a row. -/
theorem yb (c : Dev nD) (t : Fin cfg0.N) (r : Fin 256) (q : Fin 1024) : k0_pay3 (F := Ideal) (iblk m c 1 t) (iblk m c 3 t) (ix2 r q)
    = val_main_v6 (F := Ideal) (m ((c : Thread nD τ).loc main_arg1)) (m ((c : Thread nD τ).loc main_arg3)) (ix2 (tok t r) q) := by
  pointwise [k0_pay3, tok, val_main_v6, val_main_v1, val_main_v3]
  blk_point [iblk, V, idx t]

/-- The gated sum of the two branches. -/
theorem merged (c : Dev nD) (t : Fin cfg0.N) (r : Fin 256) (q : Fin 1024) : k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r q)
    = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) q) := by
  pointwise [k0_pay10, k0_pay6, k0_pay2, k0_pay3, tok, zero_sub, val_main_v23, val_main_v14, val_main_v13, val_main_v12, val_main_cst_0, val_main_v11, val_main_v10, val_main_cst, val_main_v9, val_main_v8, val_main_v7, val_main_v5, val_main_v0, val_main_v2, val_main_v22, val_main_v21, val_main_v20, val_main_cst_2, val_main_v19, val_main_v18, val_main_cst_1, val_main_v17, val_main_v16, val_main_v15, val_main_v6, val_main_v1, val_main_v3]
  blk_point [iblk, V, idx t]

/-- The output projection of a row. -/
theorem hv (c : Dev nD) (t : Fin cfg0.N) (r : Fin 256) (q : Fin 1024) : k0_pay7 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (ix2 r q)
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t r) q) := by
  pointwise [k0_pay7, val_main_v24, val_main_v4]
  simp only [merged]
  blk_point [iblk, V, idx t]

/-- A row of x1: the post-norm of the residual. -/
theorem x1 (c : Dev nD) (t : Fin cfg0.N) (r : Fin 256) (q : Fin 1024) : k0_pay8 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 7 t) (View.ld (iblk m c 8 t) r0_4) (iblk m c 9 t) (iblk m c 10 t) (ix2 r q)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (tok t r) q) := by
  pointwise [k0_pay8, val_main_v52, val_main_v50, val_main_v48, val_main_v38, val_main_v32, val_main_v28, val_main_v27, val_main_cst_3, val_main_v31, val_main_v30, val_main_v29, val_main_v26, val_main_v25, val_main_v37, val_main_v36, val_main_v34, val_main_v33, val_main_cst_4, val_main_v35, val_main_cst_5, val_main_v47, val_main_v46, val_main_v45, val_main_v43, val_main_v41, val_main_v40, val_main_v39, val_main_cst_6, val_main_v42, val_main_cst_7, val_main_v44, val_main_cst_8, val_main_v49, val_main_v51]
  simp only [hv]
  blk_point [iblk, V, idx t] <;> rfl

/-- A row of the modulated second layer norm. -/
theorem u2 (c : Dev nD) (t : Fin cfg0.N) (r : Fin 256) (q : Fin 1024) : k0_pay1 (k0_pay8 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 7 t) (View.ld (iblk m c 8 t) r0_4) (iblk m c 9 t) (iblk m c 10 t)) (k0_pay9 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 7 t) (View.ld (iblk m c 8 t) r0_4) (iblk m c 9 t) (iblk m c 10 t))
      (View.ld (iblk m c 8 t) r0_6) (View.ld (iblk m c 8 t) r0_7) (ix2 r q)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (tok t r) q) := by
  pointwise [k0_pay1, k0_pay9, val_main_v84, val_main_v80, val_main_v75, val_main_v68, val_main_v58, val_main_v57, val_main_v56, val_main_v54, val_main_v53, val_main_cst_9, val_main_v55, val_main_cst_10, val_main_v67, val_main_v66, val_main_v65, val_main_v63, val_main_v61, val_main_v60, val_main_v59, val_main_cst_11, val_main_v62, val_main_cst_12, val_main_v64, val_main_cst_13, val_main_v74, val_main_v73, val_main_v72, val_main_v71, val_main_cst_14, val_main_v70, val_main_v69, val_main_v79, val_main_v78, val_main_v77, val_main_v76]
  simp only [x1]
  blk_point [iblk, V, idx t]

/-- The array of branch a after the run. -/
theorem final11 (c : Dev nD) : (dats m 0 c).arrAt 11 (cfgs 0).N
    = val_main_v81 (F := Ideal) (m ((c : Thread nD τ).loc main_arg0)) (m ((c : Thread nD τ).loc main_arg2)) := by
  refine (dats m 0 c).arrAt_eq_of_covers 11 _ (by decide +kernel) fun t hf y => ?_
  blk_simp
  rw [after0_11]
  frame_out
  have e : ((cfg0.win 11).blk t).view.emb y = ix2 (tok t (y 0)) (y 1) := by blk_ext [idx t] <;> rfl
  rw [e, eq_ix2 y]
  exact ya m c t (y 0) (y 1)

/-- The array of branch b after the run. -/
theorem final12 (c : Dev nD) : (dats m 0 c).arrAt 12 (cfgs 0).N
    = val_main_v82 (F := Ideal) (m ((c : Thread nD τ).loc main_arg1)) (m ((c : Thread nD τ).loc main_arg3)) := by
  refine (dats m 0 c).arrAt_eq_of_covers 12 _ (by decide +kernel) fun t hf y => ?_
  blk_simp
  rw [after0_12]
  frame_out
  have e : ((cfg0.win 12).blk t).view.emb y = ix2 (tok t (y 0)) (y 1) := by blk_ext [idx t] <;> rfl
  rw [e, eq_ix2 y]
  exact yb m c t (y 0) (y 1)

/-- The array of the gated sum after the run. -/
theorem final13 (c : Dev nD) : (dats m 0 c).arrAt 13 (cfgs 0).N
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp
  rw [after0_13]
  frame_out
  have e : ((cfg0.win 13).blk t).view.emb y = ix2 (tok t (y 0)) (y 1) := by blk_ext [idx t] <;> rfl
  rw [e, eq_ix2 y]
  exact merged m c t (y 0) (y 1)

/-- The array of the output projection after the run. -/
theorem final14 (c : Dev nD) : (dats m 0 c).arrAt 14 (cfgs 0).N
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  frame_out
  have e : ((cfg0.win 14).blk t).view.emb y = ix2 (tok t (y 0)) (y 1) := by blk_ext [idx t] <;> rfl
  rw [e, eq_ix2 y]
  exact hv m c t (y 0) (y 1)

/-- The array of x1 after the run. -/
theorem final15 (c : Dev nD) : (dats m 0 c).arrAt 15 (cfgs 0).N
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  rw [after0_15]
  frame_out
  have e : ((cfg0.win 15).blk t).view.emb y = ix2 (tok t (y 0)) (y 1) := by blk_ext [idx t] <;> rfl
  rw [e, eq_ix2 y]
  exact x1 m c t (y 0) (y 1)

/-- The array of the modulated norm after the run. -/
theorem final16 (c : Dev nD) : (dats m 0 c).arrAt 16 (cfgs 0).N
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after0_16]
  frame_out
  have e : ((cfg0.win 16).blk t).view.emb y = ix2 (tok t (y 0)) (y 1) := by blk_ext [idx t] <;> rfl
  rw [e, eq_ix2 y]
  exact u2 m c t (y 0) (y 1)

end Cert.MixerTail

end
-- ==== Proof.MixerTailClaim.lean ====
/- The mixer's tail: the runs of the idealized kernel and of the reference, and the claim that they hold the same arrays. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import proofs.«01_k».proof.Proof.MixerTail
public import Idealize.ShloMosaic.Adequacy
public import Idealize.ShloMosaic.Init

@[expose] public section

noncomputable section

namespace Cert.MixerTail

open Idealize.ShloMosaic Idealize.SL.Sem Idealize.ShloMosaic.TcCoe

/-- The reference's frame. -/
theorem frameReference : Cert.quiescent_Reference7Ideal (hReference7Ideal := Cert.Reference7Ideal.Gen.facts) :=
  fun m g _ => (θ_run _ _ _).mono (fun _ h => ⟨fun c => (h c).2.2.2.2.2.2, sem_eq_zero_of_no_sems (by decide) _⟩)
    (Cert.Reference7Ideal.Value.run m g)

section
open Cert.Kernel7Ideal Cert.Kernel7Ideal.Gen Cert.Reference7Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = val_main_v81 (F := Ideal) (m ((c.tc : Thread nD τ).loc main_arg0)) (m ((c.tc : Thread nD τ).loc main_arg2))
      ∧ r.2.mem ((c.tc : Thread nD τ).loc main_v0_1) = val_main_v82 (F := Ideal) (m ((c.tc : Thread nD τ).loc main_arg1)) (m ((c.tc : Thread nD τ).loc main_arg3))
      ∧ r.2.mem ((c.tc : Thread nD τ).loc main_v0_2) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_3) = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_4) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v0_5) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).1 11).trans (final11 m c),
      ((h c).1 12).trans (final12 m c),
      ((h c).1 13).trans (final13 m c),
      ((h c).1 14).trans (final14 m c),
      ((h c).1 15).trans (final15 m c),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩) (run_main m ρ)

end

attribute [local instance] Cert.Kernel7Ideal.Gen.facts Cert.Reference7Ideal.Gen.facts in
/-- The mixer's tail: kernel and reference hold the same arrays. -/
theorem agree : Cert.algebraic_Kernel7Ideal_Reference7Ideal := by
  intro m g m' g' _ hagree
  refine ⟨fun c => Cert.Reference7Ideal.Read.val_main_v81 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)),
    fun c => Cert.Reference7Ideal.Read.val_main_v82 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg3)),
    fun c => Cert.Reference7Ideal.Read.val_main_v83 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)),
    fun c => Cert.Reference7Ideal.Read.val_main_v24 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => Cert.Reference7Ideal.Read.val_main_v52 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)),
    fun c => Cert.Reference7Ideal.Read.val_main_v84 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)),
    (θ_run _ _ _).mono (fun r h c => ?_) (kernelRun m g), (θ_run _ _ _).mono (fun r h c => ?_) (Cert.Reference7Ideal.Value.run m' g')⟩
  · exact h c
  · obtain ⟨h0, h1, h2, h3, h4, h5, hargs⟩ := h c
    obtain ⟨e0, e1, e2, e3, e4, e5, e6, e7, e8, e9⟩ := hagree c
    refine ⟨h0.trans ?_, h1.trans ?_, h2.trans ?_, h3.trans ?_, h4.trans ?_, h5.trans ?_, hargs⟩
    · beta_reduce; rw [← e0, ← e2]; exact Cert.Reference7Ideal.Read.val_main_v81_eq _ _
    · beta_reduce; rw [← e1, ← e3]; exact Cert.Reference7Ideal.Read.val_main_v82_eq _ _
    · beta_reduce; rw [← e0, ← e1, ← e2, ← e3, ← e4]; exact Cert.Reference7Ideal.Read.val_main_v83_eq _ _ _ _ _
    · beta_reduce; rw [← e0, ← e1, ← e2, ← e3, ← e4, ← e5]; exact Cert.Reference7Ideal.Read.val_main_v24_eq _ _ _ _ _ _
    · beta_reduce; rw [← e0, ← e1, ← e2, ← e3, ← e4, ← e5, ← e6, ← e7, ← e8, ← e9]; exact Cert.Reference7Ideal.Read.val_main_v52_eq _ _
    · beta_reduce; rw [← e0, ← e1, ← e2, ← e3, ← e4, ← e5, ← e6, ← e7, ← e8, ← e9]; exact Cert.Reference7Ideal.Read.val_main_v84_eq _ _

end Cert.MixerTail

end
-- ==== Proof.RealNorm.lean ====
/- Layer norm over real rows: what a row's mean, variance and reciprocal deviation are, and that the gradient jax derives for
   a row is the closed formula the kernels compute. -/
module

public import proofs.«01_k».proof.Proof.Finite

@[expose] public section

noncomputable section

open Idealize.ShloMosaic
open scoped BigOperators

namespace Cert.Finite

/-- A sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The row's length, as the programs write it. -/
theorem width : Ideal.ofBits .f32 0x44800000#32 = ((1024 : ℝ) : EReal) := by
  simp [Ideal.ofBits, Ideal.ieee]
  rw [← EReal.coe_mul]
  norm_num

/-- Minus one half, as the reference's gradient writes it. -/
theorem minus_half : Ideal.ofBits .f32 0xBF000000#32 = ((-(1 / 2) : ℝ) : EReal) := by
  simp [Ideal.ofBits, Ideal.ieee]
  rw [← EReal.coe_mul]
  norm_num

/-- The number added to the variance is a positive real number. -/
theorem eps : ∃ e : ℝ, 0 < e ∧ Ideal.ofBits .f32 0x3727C5AC#32 = (e : EReal) := by
  simp [Ideal.ofBits, Ideal.ieee]
  refine ⟨_, ?_, rfl⟩
  positivity

/-- A real number divided by the row's length. -/
theorem div_width (x : ℝ) : Ideal.div (x : EReal) (Ideal.ofBits .f32 0x44800000#32) = ((x / 1024 : ℝ) : EReal) := by
  rw [width, Ideal.div_coe (by norm_num), ← EReal.coe_mul]
  congr 1; ring

/-- A centred row `X` of real numbers, its variance `Z` (with the small number added) and the reciprocal deviation `R`. -/
def Row (X : Fin 1024 → EReal) (Z R : EReal) : Prop :=
  ∃ (x : Fin 1024 → ℝ) (z : ℝ), (∀ q, X q = (x q : EReal)) ∧ ∑ q, x q = 0 ∧ 0 < z ∧ Z = (z : EReal) ∧ R = (((Real.sqrt z)⁻¹ : ℝ) : EReal)

/-- A row of real numbers less its mean sums to zero. -/
theorem centre (x : Fin 1024 → EReal) (hx : ∀ q, IsReal (x q)) :
    ∃ y : Fin 1024 → ℝ, (∀ q, x q - Ideal.div (∑ k, x k) (Ideal.ofBits .f32 0x44800000#32) = (y q : EReal)) ∧ ∑ q, y q = 0 := by
  choose a ha using hx
  refine ⟨fun q => a q - (∑ k, a k) / 1024, fun q => ?_, ?_⟩
  · simp only [ha, coe_sum, div_width]
    exact (EReal.coe_sub _ _).symm
  · rw [Finset.sum_sub_distrib, Finset.sum_const, Finset.card_univ, Fintype.card_fin]
    simp
    ring

/-- A centred row's variance and reciprocal deviation. -/
theorem row (X : Fin 1024 → EReal) (y : Fin 1024 → ℝ) (hX : ∀ q, X q = (y q : EReal)) (hy : ∑ q, y q = 0) :
    Row X (Ideal.div (∑ k, X k * X k) (Ideal.ofBits .f32 0x44800000#32) + Ideal.ofBits .f32 0x3727C5AC#32)
      (Ideal.rsqrt (Ideal.div (∑ k, X k * X k) (Ideal.ofBits .f32 0x44800000#32) + Ideal.ofBits .f32 0x3727C5AC#32)) := by
  obtain ⟨e, he, hE⟩ := eps
  have hz : Ideal.div (∑ k, X k * X k) (Ideal.ofBits .f32 0x44800000#32) + Ideal.ofBits .f32 0x3727C5AC#32
      = (((∑ k, y k * y k) / 1024 + e : ℝ) : EReal) := by
    simp only [hX, ← EReal.coe_mul, coe_sum, div_width, hE, ← EReal.coe_add]
  have h0 : 0 < (∑ k, y k * y k) / 1024 + e := by
    have : 0 ≤ ∑ k, y k * y k := Finset.sum_nonneg fun k _ => mul_self_nonneg _
    positivity
  refine ⟨y, _, hX, hy, h0, hz, ?_⟩
  rw [hz, Ideal.rsqrt_coe, if_neg (not_lt.2 h0.le), if_neg h0.ne']

/-- The gradient of a normed row: jax's transposed steps come to the closed formula. -/
theorem Row.back {X : Fin 1024 → EReal} {Z R : EReal} (h : Row X Z R) (G : Fin 1024 → EReal) (hG : ∀ q, IsReal (G q)) (q : Fin 1024) :
    R * (G q - Ideal.div (∑ k, G k) (Ideal.ofBits .f32 0x44800000#32)
        - X q * R * Ideal.div (∑ k, G k * (X k * R)) (Ideal.ofBits .f32 0x44800000#32))
      = G q * R
          + X q * Ideal.div ((∑ k, X k * G k) * (Ideal.ofBits .f32 0xBF000000#32 * Ideal.div R Z)) (Ideal.ofBits .f32 0x44800000#32)
          + Ideal.div ((∑ k, X k * G k) * (Ideal.ofBits .f32 0xBF000000#32 * Ideal.div R Z)) (Ideal.ofBits .f32 0x44800000#32) * X q
        + Ideal.div (∑ l, -(G l * R
            + X l * Ideal.div ((∑ k, X k * G k) * (Ideal.ofBits .f32 0xBF000000#32 * Ideal.div R Z)) (Ideal.ofBits .f32 0x44800000#32)
            + Ideal.div ((∑ k, X k * G k) * (Ideal.ofBits .f32 0xBF000000#32 * Ideal.div R Z)) (Ideal.ofBits .f32 0x44800000#32) * X l))
          (Ideal.ofBits .f32 0x44800000#32) := by
  obtain ⟨x, z, hx, hs, hz, rfl, rfl⟩ := h
  choose g hg using hG
  have hr : (Real.sqrt z)⁻¹ * (Real.sqrt z)⁻¹ * z = 1 := by
    have := Real.mul_self_sqrt hz.le
    have h1 : Real.sqrt z ≠ 0 := (Real.sqrt_pos.2 hz).ne'
    field_simp
    nlinarith
  generalize (Real.sqrt z)⁻¹ = r at hr ⊢
  have hz' : 1 / z = r * r := by field_simp; linarith
  simp only [hx, hg, minus_half, Ideal.div_coe hz.ne', hz', ← EReal.coe_mul, ← EReal.coe_add, ← EReal.coe_sub, ← EReal.coe_neg, coe_sum, div_width]
  congr 1
  have e1 : ∑ k, g k * (x k * r) = r * ∑ k, x k * g k := by
    rw [Finset.mul_sum]; exact Finset.sum_congr rfl fun k _ => by ring
  rw [e1]
  generalize ∑ k, x k * g k = s
  have e2 : ∑ l, -(g l * r + x l * (s * (-(1 / 2) * (r * (r * r))) / 1024) + s * (-(1 / 2) * (r * (r * r))) / 1024 * x l)
      = -(r * ∑ l, g l) + s * (r * (r * r)) / 1024 * ∑ l, x l := by
    rw [Finset.mul_sum, Finset.mul_sum, ← Finset.sum_neg_distrib, ← Finset.sum_add_distrib]
    exact Finset.sum_congr rfl fun k _ => by ring
  rw [e2, hs]
  ring

/-- The closed formula is a real number. -/
theorem Row.isReal {X : Fin 1024 → EReal} {Z R : EReal} (h : Row X Z R) : (∀ q, IsReal (X q)) ∧ IsReal Z ∧ IsReal R := by
  obtain ⟨x, z, hx, _, _, rfl, rfl⟩ := h
  exact ⟨fun q => ⟨x q, hx q⟩, ⟨z, rfl⟩, ⟨_, rfl⟩⟩

/-- The right side of `Row.back` is a real number. -/
theorem Row.back_real {X : Fin 1024 → EReal} {Z R : EReal} (h : Row X Z R) (G : Fin 1024 → EReal) (hG : ∀ q, IsReal (G q)) (q : Fin 1024) :
    IsReal (G q * R
          + X q * Ideal.div ((∑ k, X k * G k) * (Ideal.ofBits .f32 0xBF000000#32 * Ideal.div R Z)) (Ideal.ofBits .f32 0x44800000#32)
          + Ideal.div ((∑ k, X k * G k) * (Ideal.ofBits .f32 0xBF000000#32 * Ideal.div R Z)) (Ideal.ofBits .f32 0x44800000#32) * X q
        + Ideal.div (∑ l, -(G l * R
            + X l * Ideal.div ((∑ k, X k * G k) * (Ideal.ofBits .f32 0xBF000000#32 * Ideal.div R Z)) (Ideal.ofBits .f32 0x44800000#32)
            + Ideal.div ((∑ k, X k * G k) * (Ideal.ofBits .f32 0xBF000000#32 * Ideal.div R Z)) (Ideal.ofBits .f32 0x44800000#32) * X l))
          (Ideal.ofBits .f32 0x44800000#32)) := by
  rw [← h.back G hG q]
  obtain ⟨hX, _, hR⟩ := h.isReal
  have hd : ∀ x : EReal, IsReal x → IsReal (Ideal.div x (Ideal.ofBits .f32 0x44800000#32)) := fun x hx => by
    obtain ⟨a, ha⟩ := hx
    rw [ha, div_width]
    exact IsReal.coe _
  exact hR.mul (((hG q).sub (hd _ (IsReal.sum _ _ fun k _ => hG k))).sub (((hX q).mul hR).mul (hd _ (IsReal.sum _ _ fun k _ => (hG k).mul ((hX k).mul hR)))))

end Cert.Finite

end
-- ==== Proof.Rows.lean ====
/- Buffers written row by row: what an index reads after a list of stores of whole rows. -/
module

public import Idealize.ShloMosaic.Lib.WritesUnit
public import Idealize.ShloMosaic.Lib.Pipeline.ValueKit

@[expose] public section

open Idealize.ShloMosaic Idealize.ShloMosaic.View

namespace Cert.Rows

variable {Val : EltTy → Type} {e : EltTy} {R C o : ℕ}

/-- The index of row `o` of the buffer that entry `q` of a one-row store has. -/
theorem emb_row (inb : ∀ a : Fin 2, (![o, 0] : Fin 2 → ℕ) a + (![1, C] : Fin 2 → ℕ) a ≤ (![R, C] : Fin 2 → ℕ) a) (r : Fin R) (q : Fin C) (h : r.val = o) :
    (Rect.unit (s := ⟨2, ![R, C]⟩) ![o, 0] ![1, C] inb).emb (ix2 (0 : Fin 1) q) = ix2 r q :=
  funext (Fin.forall_fin_two.2 ⟨Fin.ext (by show o + 1 * 0 = r.val; omega), Fin.ext (by show 0 + 1 * q.val = q.val; omega)⟩)

/-- The row the last store covers reads that store's payload. -/
theorem canon_hit [∀ e, Nonempty (Val e)] {inb : ∀ a : Fin 2, (![o, 0] : Fin 2 → ℕ) a + (![1, C] : Fin 2 → ℕ) a ≤ (![R, C] : Fin 2 → ℕ) a}
    {w : (⟨2, ![1, C]⟩ : Shape).Idx → Val e} {L : List (Piece Val (⟨2, ![R, C]⟩ : Shape) e)} {r : Fin R} {q : Fin C} (h : r.val = o) :
    canon ((⟨Rect.unit (s := ⟨2, ![R, C]⟩) ![o, 0] ![1, C] inb, w⟩ : Piece Val (⟨2, ![R, C]⟩ : Shape) e) :: L) (ix2 r q) = w (ix2 (0 : Fin 1) q) := by
  rw [← emb_row inb r q h]
  exact canon_cons_emb (Rect.unit (s := ⟨2, ![R, C]⟩) ![o, 0] ![1, C] inb) w L (ix2 (0 : Fin 1) q)

/-- A row the last store does not cover reads what the stores before it left. -/
theorem canon_miss [∀ e, Nonempty (Val e)] {inb : ∀ a : Fin 2, (![o, 0] : Fin 2 → ℕ) a + (![1, C] : Fin 2 → ℕ) a ≤ (![R, C] : Fin 2 → ℕ) a}
    {w : (⟨2, ![1, C]⟩ : Shape).Idx → Val e} {L : List (Piece Val (⟨2, ![R, C]⟩ : Shape) e)} {r : Fin R} {q : Fin C} (h : r.val ≠ o) :
    canon ((⟨Rect.unit (s := ⟨2, ![R, C]⟩) ![o, 0] ![1, C] inb, w⟩ : Piece Val (⟨2, ![R, C]⟩ : Shape) e) :: L) (ix2 r q) = canon L (ix2 r q) :=
  canon_cons_of_not_mem _ L fun hm => by
    have hm : ix2 r q ∈ (Rect.unit (s := ⟨2, ![R, C]⟩) ![o, 0] ![1, C] inb).set := hm
    have h0 : o ≤ r.val ∧ r.val < o + 1 := (Rect.mem_set_unit (inb := inb)).1 hm (0 : Fin 2)
    omega

/-- A store of the whole buffer is read everywhere. -/
theorem canon_fill [∀ e, Nonempty (Val e)] {inb : ∀ a : Fin 2, (![0, 0] : Fin 2 → ℕ) a + (![R, C] : Fin 2 → ℕ) a ≤ (![R, C] : Fin 2 → ℕ) a}
    {w : (⟨2, ![R, C]⟩ : Shape).Idx → Val e} {L : List (Piece Val (⟨2, ![R, C]⟩ : Shape) e)} {r : Fin R} {q : Fin C} :
    canon ((⟨Rect.unit (s := ⟨2, ![R, C]⟩) ![0, 0] ![R, C] inb, w⟩ : Piece Val (⟨2, ![R, C]⟩ : Shape) e) :: L) (ix2 r q) = w (ix2 r q) := by
  have h : (Rect.unit (s := ⟨2, ![R, C]⟩) ![0, 0] ![R, C] inb).emb (ix2 r q) = ix2 r q :=
    funext (Fin.forall_fin_two.2 ⟨Fin.ext (by show 0 + 1 * r.val = r.val; omega), Fin.ext (by show 0 + 1 * q.val = q.val; omega)⟩)
  exact (congrArg _ h.symm).trans (canon_cons_emb (Rect.unit (s := ⟨2, ![R, C]⟩) ![0, 0] ![R, C] inb) w L (ix2 r q))

variable {sig : RefSig} {κ : Kind} {sp : Space}

/-- Over earlier contents: the row covered by the last store, -/
theorem read_hit {v : View sig κ sp (⟨2, ![R, C]⟩ : Shape) e} {f : v.ty.Contents Val} {inb : ∀ a : Fin 2, (![o, 0] : Fin 2 → ℕ) a + (![1, C] : Fin 2 → ℕ) a ≤ (![R, C] : Fin 2 → ℕ) a}
    {w : (⟨2, ![1, C]⟩ : Shape).Idx → Val e} {L : List (Piece Val (⟨2, ![R, C]⟩ : Shape) e)} {r : Fin R} {q : Fin C} (h : r.val = o) :
    v.read Val (v.writes Val f ((⟨Rect.unit (s := ⟨2, ![R, C]⟩) ![o, 0] ![1, C] inb, w⟩ : Piece Val (⟨2, ![R, C]⟩ : Shape) e) :: L)) (ix2 r q) = w (ix2 (0 : Fin 1) q) :=
  read_writes_cons_unit_of_mem v f inb w L (ix2 r q) (ix2 (0 : Fin 1) q) rfl
    (Fin.forall_fin_two.2 ⟨by show r.val = o + 0; omega, by show q.val = 0 + q.val; omega⟩)

/-- and another row. -/
theorem read_miss {v : View sig κ sp (⟨2, ![R, C]⟩ : Shape) e} {f : v.ty.Contents Val} {inb : ∀ a : Fin 2, (![o, 0] : Fin 2 → ℕ) a + (![1, C] : Fin 2 → ℕ) a ≤ (![R, C] : Fin 2 → ℕ) a}
    {w : (⟨2, ![1, C]⟩ : Shape).Idx → Val e} {L : List (Piece Val (⟨2, ![R, C]⟩ : Shape) e)} {r : Fin R} {q : Fin C} (h : r.val ≠ o) :
    v.read Val (v.writes Val f ((⟨Rect.unit (s := ⟨2, ![R, C]⟩) ![o, 0] ![1, C] inb, w⟩ : Piece Val (⟨2, ![R, C]⟩ : Shape) e) :: L)) (ix2 r q)
      = v.read Val (v.writes Val f L) (ix2 r q) :=
  read_writes_cons_unit_of_not_mem v f inb w L (ix2 r q) rfl (0 : Fin 2) (by show r.val < o ∨ o + 1 ≤ r.val; omega)

/-- A row loaded from what stores left. -/
theorem load_row [∀ e, Nonempty (Val e)] {v : View sig κ sp (⟨2, ![R, C]⟩ : Shape) e} {L : List (Piece Val (⟨2, ![R, C]⟩ : Shape) e)}
    {inb : ∀ a : Fin 2, (![o, 0] : Fin 2 → ℕ) a + (![1, C] : Fin 2 → ℕ) a ≤ (![R, C] : Fin 2 → ℕ) a} {q : Fin C} (r : Fin R) (h : r.val = o) :
    v.readCov L (Rect.unit (s := ⟨2, ![R, C]⟩) ![o, 0] ![1, C] inb).toLoadRect (ix2 (0 : Fin 1) q) = canon L (ix2 r q) :=
  (congrFun (readCov_eq_canon' v L _) _).trans (congrArg (canon L) (emb_row inb r q h))

/-- A row loaded from an array. -/
theorem ld_row {T : (⟨2, ![R, C]⟩ : Shape).Idx → Val e} {inb : ∀ a : Fin 2, (![o, 0] : Fin 2 → ℕ) a + (![1, C] : Fin 2 → ℕ) a ≤ (![R, C] : Fin 2 → ℕ) a} {q : Fin C} (r : Fin R) (h : r.val = o) :
    View.ld T (Rect.unit (s := ⟨2, ![R, C]⟩) ![o, 0] ![1, C] inb) (ix2 (0 : Fin 1) q) = T (ix2 r q) :=
  congrArg T (emb_row inb r q h)

end Cert.Rows
-- ==== Proof.MixerTailBwd.lean ====
/- The gradient through the mixer tail. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import Idealize.ShloMosaic.Lib.Claim
public import proofs.«01_k».proof.Proof.RealNorm
public import proofs.«01_k».proof.Proof.Rows

@[expose] public section

set_option maxRecDepth 16384

noncomputable section

open Idealize.ShloMosaic Idealize.ShloMosaic.TcCoe Idealize.SL.Sem
open Idealize.ShloMosaic.Pipeline (Dat)
open Cert.Finite (IsReal Row)
open scoped BigOperators

namespace Cert.MixerTailBwd

open Cert.Kernel8Ideal Cert.Kernel8Ideal.Gen Cert.Reference8Ideal.Read

variable (m : (ℓ : Loc nD τ sig) → Buf (Elt Ideal) ℓ)

/-- Every window's block index at every grid point. -/
theorem idx : ∀ t : Fin cfg0.N, win0_0.index t = ![t.val, 0] ∧ win0_2.index t = ![0, 0, 0] ∧ win0_3.index t = ![0, 1, 0]
    ∧ win0_1.index t = ![0, t.val, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![0, 0]
    ∧ win0_14.index t = ![0, 0] :=
  (by decide +kernel : ∀ t : Fin grid0.N, _)

/-- On device `c` the entries of the arrays the precondition names are real numbers. -/
def Entries (c : Dev nD) : Prop :=
  (∀ i, IsReal (m ((c : Thread nD τ).loc main_arg0) i))
    ∧ (∀ i, IsReal (m ((c : Thread nD τ).loc main_arg1) i))
    ∧ (∀ i, IsReal (m ((c : Thread nD τ).loc main_arg2) i))
    ∧ (∀ i, IsReal (m ((c : Thread nD τ).loc main_arg3) i))
    ∧ (∀ i, IsReal (m ((c : Thread nD τ).loc main_arg4) i))
    ∧ (∀ i, IsReal (m ((c : Thread nD τ).loc main_arg5) i))
    ∧ (∀ i, IsReal (m ((c : Thread nD τ).loc main_arg6) i))
    ∧ (∀ i, IsReal (m ((c : Thread nD τ).loc main_arg7) i))

/-- The residual's factor is some real number. -/
theorem alpha : IsReal (Ideal.ofBits .f32 0x3F9837F0#32) := by
  simp [Ideal.ofBits, Ideal.ieee]
  exact (IsReal.coe _).mul (IsReal.coe _)

/-- Row `r` of the tile of point `t`, as a token. -/
def tok (t : Fin cfg0.N) (r : Fin 256) : Fin 4096 :=
  ⟨t.val * 256 + r.val, by have := t.isLt; have h : t.val < 16 := this; have := r.isLt; omega⟩

/-- The gate branch's weights: every shard's rows of the gathered array. -/
theorem gate_w (c : Dev nD) (t : Fin cfg0.N) (y : S8x352x1024.Idx) : X0_2 m c t y
    = m ((c : Thread nD τ).loc main_arg2) (ix3 (y 0) ⟨0 + (y 1).val, by have : (y 1).val < 352 := (y 1).isLt; omega⟩ (y 2)) := by
  unfold X0_2 Pipeline.Window.fill
  rw [dif_pos (moved0_2 t y)]
  blk_point [iblk, V, idx t]

/-- The up branch's weights. -/
theorem up_w (c : Dev nD) (t : Fin cfg0.N) (y : S8x352x1024.Idx) : X0_3 m c t y
    = m ((c : Thread nD τ).loc main_arg2) (ix3 (y 0) ⟨352 + (y 1).val, by have : (y 1).val < 352 := (y 1).isLt; omega⟩ (y 2)) := by
  unfold X0_3 Pipeline.Window.fill
  rw [dif_pos (moved0_3 t y)]
  blk_point [iblk, V, idx t]

/-- The blocks a point reads: the layer's rows, -/
theorem x1_at (c : Dev nD) (t : Fin cfg0.N) (r : Fin 256) (q : Fin 1024) : iblk (F := Ideal) m c 0 t (ix2 r q) = m ((c : Thread nD τ).loc main_arg0) (ix2 (tok t r) q) := by
  blk_point [iblk, V, idx t, tok]

/-- the gradients of both branches, -/
theorem d_at (c : Dev nD) (t : Fin cfg0.N) (a : Fin 2) (r : Fin 256) (q : Fin 2816) : iblk (F := Ideal) m c 1 t (ix3 a r q) = m ((c : Thread nD τ).loc main_arg1) (ix3 a (tok t r) q) := by
  blk_point [iblk, V, idx t, tok]

/-- the modulation, -/
theorem mod_at (c : Dev nD) (t : Fin cfg0.N) (a : Fin 6) (q : Fin 1024) : iblk (F := Ideal) m c 4 t (ix2 a q) = m ((c : Thread nD τ).loc main_arg3) (ix2 a q) := by
  blk_point [iblk, V, idx t]

/-- what is added to the gradient, -/
theorem part_at (c : Dev nD) (t : Fin cfg0.N) (r : Fin 256) (q : Fin 1024) : iblk (F := Ideal) m c 5 t (ix2 r q) = m ((c : Thread nD τ).loc main_arg4) (ix2 (tok t r) q) := by
  blk_point [iblk, V, idx t, tok]

/-- the residual, -/
theorem x_at (c : Dev nD) (t : Fin cfg0.N) (r : Fin 256) (q : Fin 1024) : iblk (F := Ideal) m c 6 t (ix2 r q) = m ((c : Thread nD τ).loc main_arg5) (ix2 (tok t r) q) := by
  blk_point [iblk, V, idx t, tok]

/-- the mixer's result, -/
theorem h_at (c : Dev nD) (t : Fin cfg0.N) (r : Fin 256) (q : Fin 1024) : iblk (F := Ideal) m c 7 t (ix2 r q) = m ((c : Thread nD τ).loc main_arg6) (ix2 (tok t r) q) := by
  blk_point [iblk, V, idx t, tok]

/-- the norm's scale, -/
theorem g_at (c : Dev nD) (t : Fin cfg0.N) (q : Fin 1024) : iblk (F := Ideal) m c 8 t (ix2 (0 : Fin 1) q) = m ((c : Thread nD τ).loc main_arg7) (ix2 (0 : Fin 1) q) := by
  blk_point [iblk, V, idx t]

/-- and the merged branches. -/
theorem m_at (c : Dev nD) (t : Fin cfg0.N) (r : Fin 256) (q : Fin 1024) : iblk (F := Ideal) m c 10 t (ix2 r q) = m ((c : Thread nD τ).loc main_arg9) (ix2 (tok t r) q) := by
  blk_point [iblk, V, idx t, tok]

/-- The gradient of the FFN's input: the products with both weights. -/
theorem du (c : Dev nD) (t : Fin cfg0.N) (r : Fin 256) (q : Fin 1024) : k0_pay4 (F := Ideal) (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t) (ix2 r q)
    = val_main_v50 (F := Ideal) (m ((c : Thread nD τ).loc main_arg1)) (m ((c : Thread nD τ).loc main_arg2)) (ix2 (tok t r) q) := by
  pointwise [k0_pay4, val_main_v50, val_main_v48, val_main_v47, val_main_v46, val_main_v45, val_main_v40, val_main_v5, val_main_v4, val_main_v3, val_main_v49, val_main_v44, val_main_v43, val_main_v42, val_main_v38, val_main_v2, val_main_v1, val_main_v0]
  simp only [gate_w, up_w, d_at]
  refine (add_comm (G := EReal) _ _).trans (congrArg₂ (· + ·) (Finset.sum_congr rfl fun k _ => ?_) (Finset.sum_congr rfl fun k _ => ?_))
  · blk_point [tok]
  · blk_point [tok]

/-- It is a real number. -/
theorem du_real (c : Dev nD) (h : Entries m c) (r : Fin 4096) (q : Fin 1024) : IsReal (val_main_v50 (F := Ideal) (m ((c : Thread nD τ).loc main_arg1)) (m ((c : Thread nD τ).loc main_arg2)) (ix2 r q)) := by
  pointwise [val_main_v50, val_main_v48, val_main_v47, val_main_v46, val_main_v45, val_main_v40, val_main_v5, val_main_v4, val_main_v3, val_main_v49, val_main_v44, val_main_v43, val_main_v42, val_main_v38, val_main_v2, val_main_v1, val_main_v0]
  exact (IsReal.sum _ _ fun k _ => (h.2.1 _).mul (h.2.2.1 _)).add (IsReal.sum _ _ fun k _ => (h.2.1 _).mul (h.2.2.1 _))

/-- A row of the layer, less its mean, -/
theorem centred (c : Dev nD) (t : Fin cfg0.N) (r : Fin 256) (q : Fin 1024) : k0_pay5 (F := Ideal) (iblk m c 0 t) (ix2 r q)
    = val_main_v16 (F := Ideal) (m ((c : Thread nD τ).loc main_arg0)) (ix2 (tok t r) q) := by
  pointwise [k0_pay5, val_main_v16, val_main_v15, val_main_v14, val_main_v12, val_main_v11, val_main_cst, val_main_v13, val_main_cst_0]
  simp only [x1_at]

/-- its reciprocal deviation, -/
theorem rstd (c : Dev nD) (t : Fin cfg0.N) (r : Fin 256) : k0_pay6 (F := Ideal) (iblk m c 0 t) (ix2 r (0 : Fin 1))
    = val_main_v24 (F := Ideal) (m ((c : Thread nD τ).loc main_arg0)) (ix2 (tok t r) (0 : Fin 1)) := by
  pointwise [k0_pay6, val_main_v24, val_main_v23, val_main_v21, val_main_v19, val_main_v18, val_main_v17, val_main_cst_1, val_main_v20, val_main_cst_2, val_main_v22, val_main_cst_3]
  simp only [centred]

/-- and the normed row. -/
theorem normed (c : Dev nD) (t : Fin cfg0.N) (r : Fin 256) (q : Fin 1024) : k0_pay7 (F := Ideal) (iblk m c 0 t) (ix2 r q)
    = val_main_v29 (F := Ideal) (m ((c : Thread nD τ).loc main_arg0)) (ix2 (tok t r) q) := by
  pointwise [k0_pay7, val_main_v29, val_main_v28]
  simp only [centred, rstd]

/-- The same of the residual with the gated mixer's result: less its mean, -/
theorem centred2 (c : Dev nD) (t : Fin cfg0.N) (r : Fin 256) (q : Fin 1024) : k0_pay12 (F := Ideal) (View.ld (iblk m c 4 t) (Rect.unit ![2, 0] ![1, 1024] inb_S6x1024_S1x1024_2_0)) (iblk m c 7 t) (iblk m c 6 t) (ix2 r q)
    = val_main_v97 (F := Ideal) (m ((c : Thread nD τ).loc main_arg3)) (m ((c : Thread nD τ).loc main_arg5)) (m ((c : Thread nD τ).loc main_arg6)) (ix2 (tok t r) q) := by
  pointwise [k0_pay12, val_main_v97, val_main_v91, val_main_v87, val_main_v86, val_main_cst_16, val_main_v90, val_main_v89, val_main_v88, val_main_v83, val_main_v82, val_main_v96, val_main_v95, val_main_v93, val_main_v92, val_main_cst_17, val_main_v94, val_main_cst_18]
  simp only [x_at, h_at, mod_at]

/-- reciprocal deviation, -/
theorem rstd2 (c : Dev nD) (t : Fin cfg0.N) (r : Fin 256) : k0_pay13 (F := Ideal) (View.ld (iblk m c 4 t) (Rect.unit ![2, 0] ![1, 1024] inb_S6x1024_S1x1024_2_0)) (iblk m c 7 t) (iblk m c 6 t) (ix2 r (0 : Fin 1))
    = val_main_v105 (F := Ideal) (m ((c : Thread nD τ).loc main_arg3)) (m ((c : Thread nD τ).loc main_arg5)) (m ((c : Thread nD τ).loc main_arg6)) (ix2 (tok t r) (0 : Fin 1)) := by
  pointwise [k0_pay13, val_main_v105, val_main_v104, val_main_v102, val_main_v100, val_main_v99, val_main_v98, val_main_cst_19, val_main_v101, val_main_cst_20, val_main_v103, val_main_cst_21]
  simp only [centred2]

/-- normed row. -/
theorem normed2 (c : Dev nD) (t : Fin cfg0.N) (r : Fin 256) (q : Fin 1024) : k0_pay14 (F := Ideal) (View.ld (iblk m c 4 t) (Rect.unit ![2, 0] ![1, 1024] inb_S6x1024_S1x1024_2_0)) (iblk m c 7 t) (iblk m c 6 t) (ix2 r q)
    = val_main_v110 (F := Ideal) (m ((c : Thread nD τ).loc main_arg3)) (m ((c : Thread nD τ).loc main_arg5)) (m ((c : Thread nD τ).loc main_arg6)) (ix2 (tok t r) q) := by
  pointwise [k0_pay14, val_main_v110, val_main_v109]
  simp only [centred2, rstd2]

/-- A centred row of the layer, its variance and its reciprocal deviation. -/
theorem normRow (c : Dev nD) (h : Entries m c) (r : Fin 4096) : Row (fun q => val_main_v16 (F := Ideal) (m ((c : Thread nD τ).loc main_arg0)) (ix2 r q))
    (val_main_v23 (F := Ideal) (m ((c : Thread nD τ).loc main_arg0)) (ix2 r (0 : Fin 1))) (val_main_v24 (F := Ideal) (m ((c : Thread nD τ).loc main_arg0)) (ix2 r (0 : Fin 1))) := by
  have hx : ∀ q : Fin 1024, IsReal (m ((c : Thread nD τ).loc main_arg0) (ix2 r q)) := fun q => h.1 _
  obtain ⟨y, hy, hs⟩ := Cert.Finite.centre _ hx
  have hX : ∀ q : Fin 1024, val_main_v16 (F := Ideal) (m ((c : Thread nD τ).loc main_arg0)) (ix2 r q) = (y q : EReal) := fun q => by
    pointwise [val_main_v16, val_main_v15, val_main_v14, val_main_v12, val_main_v11, val_main_cst, val_main_v13, val_main_cst_0]
    exact hy q
  have hr := Cert.Finite.row _ y hX hs
  pointwise [val_main_v24, val_main_v23, val_main_v21, val_main_v19, val_main_v18, val_main_v17, val_main_cst_1, val_main_v20, val_main_cst_2, val_main_v22, val_main_cst_3]
  exact hr

/-- The same of the residual with the gated mixer's result. -/
theorem normRow2 (c : Dev nD) (h : Entries m c) (r : Fin 4096) : Row (fun q => val_main_v97 (F := Ideal) (m ((c : Thread nD τ).loc main_arg3)) (m ((c : Thread nD τ).loc main_arg5)) (m ((c : Thread nD τ).loc main_arg6)) (ix2 r q))
    (val_main_v104 (F := Ideal) (m ((c : Thread nD τ).loc main_arg3)) (m ((c : Thread nD τ).loc main_arg5)) (m ((c : Thread nD τ).loc main_arg6)) (ix2 r (0 : Fin 1))) (val_main_v105 (F := Ideal) (m ((c : Thread nD τ).loc main_arg3)) (m ((c : Thread nD τ).loc main_arg5)) (m ((c : Thread nD τ).loc main_arg6)) (ix2 r (0 : Fin 1))) := by
  have hx : ∀ q, IsReal (val_main_v91 (F := Ideal) (m ((c : Thread nD τ).loc main_arg3)) (m ((c : Thread nD τ).loc main_arg5)) (m ((c : Thread nD τ).loc main_arg6)) (ix2 r q)) := fun q => by
    pointwise [val_main_v91, val_main_v87, val_main_v86, val_main_cst_16, val_main_v90, val_main_v89, val_main_v88, val_main_v83, val_main_v82]
    exact (alpha.mul (h.2.2.2.2.2.1 _)).add ((h.2.2.2.1 _).mul (h.2.2.2.2.2.2.1 _))
  obtain ⟨y, hy, hs⟩ := Cert.Finite.centre _ hx
  have hX : ∀ q : Fin 1024, val_main_v97 (F := Ideal) (m ((c : Thread nD τ).loc main_arg3)) (m ((c : Thread nD τ).loc main_arg5)) (m ((c : Thread nD τ).loc main_arg6)) (ix2 r q) = (y q : EReal) := fun q => by
    pointwise [val_main_v97, val_main_v96, val_main_v95, val_main_v93, val_main_v92, val_main_cst_17, val_main_v94, val_main_cst_18]
    exact hy q
  have hr := Cert.Finite.row _ y hX hs
  pointwise [val_main_v105, val_main_v104, val_main_v102, val_main_v100, val_main_v99, val_main_v98, val_main_cst_19, val_main_v101, val_main_cst_20, val_main_v103, val_main_cst_21]
  exact hr

/-- The gradient of the layer's rows, with what is added to it. -/
theorem dx1 (c : Dev nD) (h : Entries m c) (t : Fin cfg0.N) (r : Fin 256) (q : Fin 1024) :
    k0_pay11 (F := Ideal) (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0)) (ix2 r q) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) q) := by
  pointwise [k0_pay11, k0_pay7, val_main_v117, val_main_v81, val_main_v73, val_main_v71, val_main_v64, val_main_v58, val_main_v57, val_main_v32, val_main_v31, val_main_v30, val_main_cst_5, val_main_v10, val_main_v9, val_main_v63, val_main_v70, val_main_v69, val_main_v68, val_main_v67, val_main_v65, val_main_v62, val_main_v61, val_main_v60, val_main_cst_10, val_main_v27, val_main_v26, val_main_cst_4, val_main_v25, val_main_v66, val_main_cst_11, val_main_cst_12, val_main_v72, val_main_v80, val_main_v79, val_main_v78, val_main_v76, val_main_v75, val_main_v74, val_main_cst_13, val_main_v77, val_main_cst_14, val_main_cst_15]
  simp only [centred, rstd, du, mod_at, part_at, Fin.sum_univ_one]
  exact (add_comm (G := EReal) _ _).trans (congrArg (· + _) ((normRow m c h (tok t r)).back _
    (fun q => (du_real m c h (tok t r) q).mul (IsReal.one.add (h.2.2.2.1 (ix2 (4 : Fin 6) q)))) q))

/-- It is a real number. -/
theorem dx1_real (c : Dev nD) (h : Entries m c) (r : Fin 4096) (q : Fin 1024) : IsReal (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q)) := by
  have hn := normRow m c h r
  have hG : ∀ q : Fin 1024, IsReal (val_main_v50 (F := Ideal) (m ((c : Thread nD τ).loc main_arg1)) (m ((c : Thread nD τ).loc main_arg2)) (ix2 r q) * (1 + m ((c : Thread nD τ).loc main_arg3) (ix2 (4 : Fin 6) q))) := fun q =>
    (du_real m c h r q).mul (IsReal.one.add (h.2.2.2.1 _))
  have hb := hn.back_real _ hG q
  pointwise [val_main_v117, val_main_v81, val_main_v73, val_main_v71, val_main_v64, val_main_v58, val_main_v57, val_main_v32, val_main_v31, val_main_v30, val_main_cst_5, val_main_v10, val_main_v9, val_main_v63, val_main_v70, val_main_v69, val_main_v68, val_main_v67, val_main_v65, val_main_v62, val_main_v61, val_main_v60, val_main_cst_10, val_main_v27, val_main_v26, val_main_cst_4, val_main_v25, val_main_v66, val_main_cst_11, val_main_cst_12, val_main_v72, val_main_v80, val_main_v79, val_main_v78, val_main_v76, val_main_v75, val_main_v74, val_main_cst_13, val_main_v77, val_main_cst_14, val_main_cst_15]
  simp only [Fin.sum_univ_one]
  exact hb.add (h.2.2.2.2.1 _)

/-- The gradient of the normed sum. -/
theorem dsum (c : Dev nD) (h : Entries m c) (t : Fin cfg0.N) (r : Fin 256) (q : Fin 1024) :
    k0_pay18 (F := Ideal) (k0_pay13 (View.ld (iblk m c 4 t) (Rect.unit ![2, 0] ![1, 1024] inb_S6x1024_S1x1024_2_0)) (iblk m c 7 t) (iblk m c 6 t)) (k0_pay14 (View.ld (iblk m c 4 t) (Rect.unit ![2, 0] ![1, 1024] inb_S6x1024_S1x1024_2_0)) (iblk m c 7 t) (iblk m c 6 t)) (k0_pay17 (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (iblk m c 8 t)) (ix2 r q) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) q) := by
  pointwise [k0_pay18, k0_pay17, k0_pay14, val_main_v148, val_main_v140, val_main_v138, val_main_v131, val_main_v125, val_main_v124, val_main_v111, val_main_v84, val_main_v130, val_main_v137, val_main_v136, val_main_v135, val_main_v134, val_main_v132, val_main_v129, val_main_v128, val_main_v127, val_main_cst_27, val_main_v108, val_main_v107, val_main_cst_22, val_main_v106, val_main_v133, val_main_cst_28, val_main_cst_29, val_main_v139, val_main_v147, val_main_v146, val_main_v145, val_main_v143, val_main_v142, val_main_v141, val_main_cst_30, val_main_v144, val_main_cst_31, val_main_cst_32]
  simp only [centred2, rstd2, dx1 m c h, g_at, Fin.sum_univ_one]
  exact (normRow2 m c h (tok t r)).back _ (fun q => (dx1_real m c h (tok t r) q).mul (h.2.2.2.2.2.2.2 _)) q

/-- The gradient of the mixer's result at an entry. -/
theorem dmix (c : Dev nD) (h : Entries m c) (t : Fin cfg0.N) (r : Fin 256) (q : Fin 1024) :
    k0_pay20 (F := Ideal) (View.ld (iblk m c 4 t) (Rect.unit ![2, 0] ![1, 1024] inb_S6x1024_S1x1024_2_0)) (k0_pay13 (View.ld (iblk m c 4 t) (Rect.unit ![2, 0] ![1, 1024] inb_S6x1024_S1x1024_2_0)) (iblk m c 7 t) (iblk m c 6 t)) (k0_pay14 (View.ld (iblk m c 4 t) (Rect.unit ![2, 0] ![1, 1024] inb_S6x1024_S1x1024_2_0)) (iblk m c 7 t) (iblk m c 6 t)) (k0_pay17 (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (iblk m c 8 t)) (ix2 r q) = val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) q) := by
  pointwise [k0_pay20, val_main_v150, val_main_v149, val_main_v88, val_main_v83, val_main_v82]
  simp only [dsum m c h, mod_at]

/-- The gradient of the residual at an entry. -/
theorem dres (c : Dev nD) (h : Entries m c) (t : Fin cfg0.N) (r : Fin 256) (q : Fin 1024) :
    k0_pay21 (F := Ideal) (k0_pay13 (View.ld (iblk m c 4 t) (Rect.unit ![2, 0] ![1, 1024] inb_S6x1024_S1x1024_2_0)) (iblk m c 7 t) (iblk m c 6 t)) (k0_pay14 (View.ld (iblk m c 4 t) (Rect.unit ![2, 0] ![1, 1024] inb_S6x1024_S1x1024_2_0)) (iblk m c 7 t) (iblk m c 6 t)) (k0_pay17 (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (iblk m c 8 t)) (ix2 r q) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) q) := by
  pointwise [k0_pay21, val_main_v156, val_main_v155, val_main_cst_35]
  simp only [dsum m c h]

/-- A tile's entries, summed down a column. -/
def cols (g : FVec Ideal S256x1024 .f32) (q : Fin 1024) : EReal := ∑ k : Fin 256, g (ix2 k q)

/-- One step of row 0: the gradient of the modulation's scale. -/
theorem step0 (d x : FVec Ideal S256x1024 .f32) (v : FVec Ideal S1x1024 .f32) (q : Fin 1024) :
    k0_pay9 (F := Ideal) d x (k0_pay8 (F := Ideal) v) (ix2 (0 : Fin 1) q) = v (ix2 (0 : Fin 1) q) + cols (mulf d x) q := by
  pointwise [k0_pay9, k0_pay8, cols]

/-- One step of row 1: the gradient of its shift. -/
theorem step1 (d : FVec Ideal S256x1024 .f32) (v : FVec Ideal S1x1024 .f32) (q : Fin 1024) :
    k0_pay10 (F := Ideal) d v (ix2 (0 : Fin 1) q) = v (ix2 (0 : Fin 1) q) + cols d q := by
  pointwise [k0_pay10, cols]

/-- One step of row 2: the gradient of the gate. -/
theorem step2 (h x d : FVec Ideal S256x1024 .f32) (s : FVec Ideal S256x1 .f32) (v : FVec Ideal S1x1024 .f32) (q : Fin 1024) :
    k0_pay19 (F := Ideal) h s x d v (ix2 (0 : Fin 1) q) = v (ix2 (0 : Fin 1) q) + cols (mulf (k0_pay18 (F := Ideal) s x d) h) q := by
  pointwise [k0_pay19, cols]

/-- One step of row 3: the gradient of the norm's scale. -/
theorem step3 (d h x : FVec Ideal S256x1024 .f32) (g v : FVec Ideal S1x1024 .f32) (q : Fin 1024) :
    k0_pay15 (F := Ideal) d g h x v (ix2 (0 : Fin 1) q) = v (ix2 (0 : Fin 1) q) + cols (mulf d (k0_pay14 (F := Ideal) g h x)) q := by
  pointwise [k0_pay15, cols]

/-- One step of row 4: the gradient of its shift. -/
theorem step4 (d : FVec Ideal S256x1024 .f32) (v : FVec Ideal S1x1024 .f32) (q : Fin 1024) :
    k0_pay16 (F := Ideal) d v (ix2 (0 : Fin 1) q) = v (ix2 (0 : Fin 1) q) + cols d q := by
  pointwise [k0_pay16, cols]

/-- The zero fill. -/
theorem zero (y : S8x1024.Idx) : k0_pay2 (F := Ideal) y = 0 := by pointwise [k0_pay2]

/-- Row 0 of the sums after the last point: the gradient of the modulation's scale. -/
theorem row0 (c : Dev nD) (h : Entries m c) (t : Fin cfg0.N) (ht : t.val % 16 = 15) (q : Fin 1024) :
    ((outsAt0 (F := Ideal) m c t.val t.isLt).2.2.1 (ix2 (0 : Fin 8) q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (0 : Fin 8) q) := by
  rw [Pipeline.eq_sum_fin_of_reset_step_apply_of_flush (fun n h (q : Fin 1024) => (outsAt0 (F := Ideal) m c n h).2.2.1 (ix2 (0 : Fin 8) q)) 16 (fun _ => 0)
    (fun (t : Fin cfg0.N) q => cols (mulf (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay7 (iblk m c 0 t))) q)
    (fun t h q => by
      rw [outsAt0_A m c t h (by omega)]
      frame_out
      rw [Cert.Rows.canon_miss (by simp), Cert.Rows.canon_miss (by simp), Cert.Rows.canon_miss (by simp), Cert.Rows.canon_miss (by simp), Cert.Rows.canon_hit (by rfl), step0, Cert.Rows.load_row (o := 0) (0 : Fin 8) (by rfl),
        Cert.Rows.canon_fill, zero]
      rfl)
    (fun t h q => by
      by_cases h1 : t.val % 16 = 15
      · rw [outsAt0_C m c t h h1]
        frame_out
        rw [Cert.Rows.read_miss (by simp), Cert.Rows.read_miss (by simp), Cert.Rows.read_miss (by simp), Cert.Rows.read_miss (by simp), Cert.Rows.read_hit (by rfl), step0, Cert.Rows.ld_row (o := 0) (0 : Fin 8) (by rfl)]
        rfl
      · rw [outsAt0_B m c t h h1]
        frame_out
        rw [Cert.Rows.read_miss (by simp), Cert.Rows.read_miss (by simp), Cert.Rows.read_miss (by simp), Cert.Rows.read_miss (by simp), Cert.Rows.read_hit (by rfl), step0, Cert.Rows.ld_row (o := 0) (0 : Fin 8) (by rfl)]
        rfl)
    t ht q, zero_add]
  have hN := Pipeline.run_point_lt_of_flush t ht
  have ht8 : t.val < 16 := t.isLt
  pointwise [cols, val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  simp only [du, normed]
  rw [Fin.sum_univ_one]
  refine Fin.sum_mul_add_congr fun s k hl => ?_
  have e : tok ⟨16 * (t.val / 16) + s.val, hN s⟩ k = ⟨s.val * 256 + k.val, hl⟩ := Fin.ext (by
    simp only [tok]
    omega)
  rw [e]
  exact mul_comm (G := EReal) _ _

/-- Row 1 of the sums after the last point: the gradient of its shift. -/
theorem row1 (c : Dev nD) (h : Entries m c) (t : Fin cfg0.N) (ht : t.val % 16 = 15) (q : Fin 1024) :
    ((outsAt0 (F := Ideal) m c t.val t.isLt).2.2.1 (ix2 (1 : Fin 8) q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (1 : Fin 8) q) := by
  rw [Pipeline.eq_sum_fin_of_reset_step_apply_of_flush (fun n h (q : Fin 1024) => (outsAt0 (F := Ideal) m c n h).2.2.1 (ix2 (1 : Fin 8) q)) 16 (fun _ => 0)
    (fun (t : Fin cfg0.N) q => cols (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) q)
    (fun t h q => by
      rw [outsAt0_A m c t h (by omega)]
      frame_out
      rw [Cert.Rows.canon_miss (by simp), Cert.Rows.canon_miss (by simp), Cert.Rows.canon_miss (by simp), Cert.Rows.canon_hit (by rfl), step1, Cert.Rows.load_row (o := 1) (1 : Fin 8) (by rfl),
        Cert.Rows.canon_miss (by simp), Cert.Rows.canon_fill, zero]
      rfl)
    (fun t h q => by
      by_cases h1 : t.val % 16 = 15
      · rw [outsAt0_C m c t h h1]
        frame_out
        rw [Cert.Rows.read_miss (by simp), Cert.Rows.read_miss (by simp), Cert.Rows.read_miss (by simp), Cert.Rows.read_hit (by rfl), step1, Cert.Rows.ld_row (o := 1) (1 : Fin 8) (by rfl)]
        rfl
      · rw [outsAt0_B m c t h h1]
        frame_out
        rw [Cert.Rows.read_miss (by simp), Cert.Rows.read_miss (by simp), Cert.Rows.read_miss (by simp), Cert.Rows.read_hit (by rfl), step1, Cert.Rows.ld_row (o := 1) (1 : Fin 8) (by rfl)]
        rfl)
    t ht q, zero_add]
  have hN := Pipeline.run_point_lt_of_flush t ht
  have ht8 : t.val < 16 := t.isLt
  pointwise [cols, val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  simp only [du]
  rw [Fin.sum_univ_one]
  refine Fin.sum_mul_add_congr fun s k hl => ?_
  have e : tok ⟨16 * (t.val / 16) + s.val, hN s⟩ k = ⟨s.val * 256 + k.val, hl⟩ := Fin.ext (by
    simp only [tok]
    omega)
  rw [e]

/-- Row 2 of the sums after the last point: the gradient of the gate. -/
theorem row2 (c : Dev nD) (h : Entries m c) (t : Fin cfg0.N) (ht : t.val % 16 = 15) (q : Fin 1024) :
    ((outsAt0 (F := Ideal) m c t.val t.isLt).2.2.1 (ix2 (2 : Fin 8) q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (2 : Fin 8) q) := by
  rw [Pipeline.eq_sum_fin_of_reset_step_apply_of_flush (fun n h (q : Fin 1024) => (outsAt0 (F := Ideal) m c n h).2.2.1 (ix2 (2 : Fin 8) q)) 16 (fun _ => 0)
    (fun (t : Fin cfg0.N) q => cols (mulf (k0_pay18 (k0_pay13 (View.ld (iblk m c 4 t) (Rect.unit ![2, 0] ![1, 1024] inb_S6x1024_S1x1024_2_0)) (iblk m c 7 t) (iblk m c 6 t)) (k0_pay14 (View.ld (iblk m c 4 t) (Rect.unit ![2, 0] ![1, 1024] inb_S6x1024_S1x1024_2_0)) (iblk m c 7 t) (iblk m c 6 t)) (k0_pay17 (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (iblk m c 8 t))) (iblk m c 7 t)) q)
    (fun t h q => by
      rw [outsAt0_A m c t h (by omega)]
      frame_out
      rw [Cert.Rows.canon_hit (by rfl), step2, Cert.Rows.load_row (o := 2) (2 : Fin 8) (by rfl),
        Cert.Rows.canon_miss (by simp), Cert.Rows.canon_miss (by simp), Cert.Rows.canon_miss (by simp), Cert.Rows.canon_miss (by simp), Cert.Rows.canon_fill, zero]
      rfl)
    (fun t h q => by
      by_cases h1 : t.val % 16 = 15
      · rw [outsAt0_C m c t h h1]
        frame_out
        rw [Cert.Rows.read_hit (by rfl), step2, Cert.Rows.ld_row (o := 2) (2 : Fin 8) (by rfl)]
        rfl
      · rw [outsAt0_B m c t h h1]
        frame_out
        rw [Cert.Rows.read_hit (by rfl), step2, Cert.Rows.ld_row (o := 2) (2 : Fin 8) (by rfl)]
        rfl)
    t ht q, zero_add]
  have hN := Pipeline.run_point_lt_of_flush t ht
  have ht8 : t.val < 16 := t.isLt
  pointwise [cols, val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  simp only [dsum m c h, h_at]
  rw [Fin.sum_univ_one]
  refine Fin.sum_mul_add_congr fun s k hl => ?_
  have e : tok ⟨16 * (t.val / 16) + s.val, hN s⟩ k = ⟨s.val * 256 + k.val, hl⟩ := Fin.ext (by
    simp only [tok]
    omega)
  rw [e]

/-- Row 3 of the sums after the last point: the gradient of the norm's scale. -/
theorem row3 (c : Dev nD) (h : Entries m c) (t : Fin cfg0.N) (ht : t.val % 16 = 15) (q : Fin 1024) :
    ((outsAt0 (F := Ideal) m c t.val t.isLt).2.2.1 (ix2 (3 : Fin 8) q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (3 : Fin 8) q) := by
  rw [Pipeline.eq_sum_fin_of_reset_step_apply_of_flush (fun n h (q : Fin 1024) => (outsAt0 (F := Ideal) m c n h).2.2.1 (ix2 (3 : Fin 8) q)) 16 (fun _ => 0)
    (fun (t : Fin cfg0.N) q => cols (mulf (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (k0_pay14 (View.ld (iblk m c 4 t) (Rect.unit ![2, 0] ![1, 1024] inb_S6x1024_S1x1024_2_0)) (iblk m c 7 t) (iblk m c 6 t))) q)
    (fun t h q => by
      rw [outsAt0_A m c t h (by omega)]
      frame_out
      rw [Cert.Rows.canon_miss (by simp), Cert.Rows.canon_miss (by simp), Cert.Rows.canon_hit (by rfl), step3, Cert.Rows.load_row (o := 3) (3 : Fin 8) (by rfl),
        Cert.Rows.canon_miss (by simp), Cert.Rows.canon_miss (by simp), Cert.Rows.canon_fill, zero]
      rfl)
    (fun t h q => by
      by_cases h1 : t.val % 16 = 15
      · rw [outsAt0_C m c t h h1]
        frame_out
        rw [Cert.Rows.read_miss (by simp), Cert.Rows.read_miss (by simp), Cert.Rows.read_hit (by rfl), step3, Cert.Rows.ld_row (o := 3) (3 : Fin 8) (by rfl)]
        rfl
      · rw [outsAt0_B m c t h h1]
        frame_out
        rw [Cert.Rows.read_miss (by simp), Cert.Rows.read_miss (by simp), Cert.Rows.read_hit (by rfl), step3, Cert.Rows.ld_row (o := 3) (3 : Fin 8) (by rfl)]
        rfl)
    t ht q, zero_add]
  have hN := Pipeline.run_point_lt_of_flush t ht
  have ht8 : t.val < 16 := t.isLt
  pointwise [cols, val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  simp only [dx1 m c h, normed2]
  rw [Fin.sum_univ_one]
  refine Fin.sum_mul_add_congr fun s k hl => ?_
  have e : tok ⟨16 * (t.val / 16) + s.val, hN s⟩ k = ⟨s.val * 256 + k.val, hl⟩ := Fin.ext (by
    simp only [tok]
    omega)
  rw [e]
  exact mul_comm (G := EReal) _ _

/-- Row 4 of the sums after the last point: the gradient of its shift. -/
theorem row4 (c : Dev nD) (h : Entries m c) (t : Fin cfg0.N) (ht : t.val % 16 = 15) (q : Fin 1024) :
    ((outsAt0 (F := Ideal) m c t.val t.isLt).2.2.1 (ix2 (4 : Fin 8) q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (4 : Fin 8) q) := by
  rw [Pipeline.eq_sum_fin_of_reset_step_apply_of_flush (fun n h (q : Fin 1024) => (outsAt0 (F := Ideal) m c n h).2.2.1 (ix2 (4 : Fin 8) q)) 16 (fun _ => 0)
    (fun (t : Fin cfg0.N) q => cols (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) q)
    (fun t h q => by
      rw [outsAt0_A m c t h (by omega)]
      frame_out
      rw [Cert.Rows.canon_miss (by simp), Cert.Rows.canon_hit (by rfl), step4, Cert.Rows.load_row (o := 4) (4 : Fin 8) (by rfl),
        Cert.Rows.canon_miss (by simp), Cert.Rows.canon_miss (by simp), Cert.Rows.canon_miss (by simp), Cert.Rows.canon_fill, zero]
      rfl)
    (fun t h q => by
      by_cases h1 : t.val % 16 = 15
      · rw [outsAt0_C m c t h h1]
        frame_out
        rw [Cert.Rows.read_miss (by simp), Cert.Rows.read_hit (by rfl), step4, Cert.Rows.ld_row (o := 4) (4 : Fin 8) (by rfl)]
        rfl
      · rw [outsAt0_B m c t h h1]
        frame_out
        rw [Cert.Rows.read_miss (by simp), Cert.Rows.read_hit (by rfl), step4, Cert.Rows.ld_row (o := 4) (4 : Fin 8) (by rfl)]
        rfl)
    t ht q, zero_add]
  have hN := Pipeline.run_point_lt_of_flush t ht
  have ht8 : t.val < 16 := t.isLt
  pointwise [cols, val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  simp only [dx1 m c h]
  rw [Fin.sum_univ_one]
  refine Fin.sum_mul_add_congr fun s k hl => ?_
  have e : tok ⟨16 * (t.val / 16) + s.val, hN s⟩ k = ⟨s.val * 256 + k.val, hl⟩ := Fin.ext (by
    simp only [tok]
    omega)
  rw [e]

/-- The other rows stay zero. -/
theorem rest (c : Dev nD) (t : Fin cfg0.N) (ht : t.val % 16 = 15) (r : Fin 8) (hr : 5 ≤ r.val) (q : Fin 1024) :
    ((outsAt0 (F := Ideal) m c t.val t.isLt).2.2.1 (ix2 r q) : EReal) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) := by
  rw [Pipeline.eq_sum_fin_of_reset_step_apply_of_flush (fun n h (q : Fin 1024) => (outsAt0 (F := Ideal) m c n h).2.2.1 (ix2 r q)) 16 (fun _ => 0) (fun (_ : Fin cfg0.N) _ => 0)
    (fun t h q => by
      rw [outsAt0_A m c t h (by omega)]
      frame_out
      repeat rw [Cert.Rows.canon_miss (by omega)]
      rw [Cert.Rows.canon_fill, zero, add_zero])
    (fun t h q => by
      by_cases h1 : t.val % 16 = 15
      · rw [outsAt0_C m c t h h1]
        frame_out
        repeat rw [Cert.Rows.read_miss (by omega)]
        rw [View.writes_nil, add_zero]
        exact congrFun (Memref.IsWhole.read_unread _ _) _
      · rw [outsAt0_B m c t h h1]
        frame_out
        repeat rw [Cert.Rows.read_miss (by omega)]
        rw [View.writes_nil, add_zero]
        exact congrFun (Memref.IsWhole.read_unread _ _) _)
    t ht q, zero_add, Finset.sum_const_zero]
  pointwise [val_main_v168, val_main_v160, val_main_v59, val_main_v56, val_main_v55, val_main_v54, val_main_cst_8, val_main_cst_9, val_main_v161, val_main_v53, val_main_v52, val_main_v51, val_main_cst_6, val_main_cst_7, val_main_v162, val_main_v154, val_main_v153, val_main_v152, val_main_v151, val_main_cst_33, val_main_cst_34, val_main_v163, val_main_v126, val_main_v123, val_main_v122, val_main_v121, val_main_cst_25, val_main_cst_26, val_main_v164, val_main_v120, val_main_v119, val_main_v118, val_main_cst_23, val_main_cst_24, val_main_v165, val_main_v159, val_main_cst_37, val_main_v166, val_main_v167]
  rw [dif_neg (by omega), dif_neg (by omega), dif_neg (by omega), dif_neg (by omega), dif_neg (by omega)]
  simp

/-- The zero fill of the weights' gradient. -/
theorem zero_w (j : S1024x1024.Idx) : k0_pay3 (F := Ideal) j = 0 := by pointwise [k0_pay3]

/-- A tile's share of the weights' gradient. -/
def outer (a : FVec Ideal S256x1024 .bf16) (b : FVec Ideal S256x1024 .bf16) (j : S1024x1024.Idx) : EReal := ∑ k : Fin 256, a (ix2 k (j 0)) * b (ix2 k (j 1))

/-- One step of the weights' gradient. -/
theorem step_w (g : FVec Ideal S1x1024 .f32) (s : FVec Ideal S256x1 .f32) (x d : FVec Ideal S256x1024 .f32) (v : FVec Ideal S1024x1024 .f32) (a : FVec Ideal S256x1024 .bf16) (j : S1024x1024.Idx) :
    k0_pay22 (F := Ideal) g s x d v a j = v j + outer a (k0_pay20 (F := Ideal) g s x d) j := by
  pointwise [k0_pay22, outer]

/-- At the last point the result is the accumulator's contents. -/
theorem last_eq (c : Dev nD) (t : Fin cfg0.N) (ht : t.val % 16 = 15) (j : S1024x1024.Idx) :
    ((outsAt0 (F := Ideal) m c t.val t.isLt).2.2.2.1 j : EReal) = (outsAt0 (F := Ideal) m c t.val t.isLt).2.2.2.2 j := by
  rw [outsAt0_C m c t (by omega) ht]
  frame_out
  pointwise [k0_pay1]

/-- The weights' gradient after the last point. -/
theorem last_w (c : Dev nD) (h : Entries m c) (t : Fin cfg0.N) (ht : t.val % 16 = 15) (j : S1024x1024.Idx) :
    ((outsAt0 (F := Ideal) m c t.val t.isLt).2.2.2.2 j : EReal) = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) j := by
  rw [Pipeline.eq_sum_fin_of_reset_step_apply_of_flush (fun n h => (outsAt0 (F := Ideal) m c n h).2.2.2.2) 16 (fun _ => 0)
    (fun (t : Fin cfg0.N) j => outer (iblk m c 10 t) (k0_pay20 (View.ld (iblk m c 4 t) (Rect.unit ![2, 0] ![1, 1024] inb_S6x1024_S1x1024_2_0)) (k0_pay13 (View.ld (iblk m c 4 t) (Rect.unit ![2, 0] ![1, 1024] inb_S6x1024_S1x1024_2_0)) (iblk m c 7 t) (iblk m c 6 t)) (k0_pay14 (View.ld (iblk m c 4 t) (Rect.unit ![2, 0] ![1, 1024] inb_S6x1024_S1x1024_2_0)) (iblk m c 7 t) (iblk m c 6 t)) (k0_pay17 (k0_pay11 (k0_pay4 (View.ld (iblk m c 1 t) (Rect.unit ![0, 0, 0] ![1, 256, 2816] inb_S2x256x2816_S1x256x2816_0_0_0)) (X0_2 m c t) (View.ld (iblk m c 1 t) (Rect.unit ![1, 0, 0] ![1, 256, 2816] inb_S2x256x2816_S1x256x2816_1_0_0)) (X0_3 m c t)) (k0_pay6 (iblk m c 0 t)) (k0_pay7 (iblk m c 0 t)) (iblk m c 5 t) (View.ld (iblk m c 4 t) (Rect.unit ![4, 0] ![1, 1024] inb_S6x1024_S1x1024_4_0))) (iblk m c 8 t))) j)
    (fun t h j => by
      rw [outsAt0_A m c t h (by omega)]
      frame_out
      rw [step_w, zero_w]
      rfl)
    (fun t h j => by
      by_cases h1 : t.val % 16 = 15
      · rw [outsAt0_C m c t h h1]
        frame_out
        rw [step_w, read_unread_whole]
        rfl
      · rw [outsAt0_B m c t h h1]
        frame_out
        rw [step_w, read_unread_whole]
        rfl)
    t ht j, zero_add]
  have hN := Pipeline.run_point_lt_of_flush t ht
  have ht8 : t.val < 16 := t.isLt
  pointwise [outer, val_main_v172, val_main_v171, val_main_v170, val_main_v6]
  refine Fin.sum_mul_add_congr fun s k hl => ?_
  refine (Ideal.mul_congr (m_at m c ⟨_, hN s⟩ k (j 0)) (dmix m c h ⟨_, hN s⟩ k (j 1))).trans ?_
  have e : tok ⟨16 * (t.val / 16) + s.val, hN s⟩ k = ⟨s.val * 256 + k.val, hl⟩ := Fin.ext (by
    simp only [tok]
    omega)
  rw [e]
  exact mul_comm (G := EReal) _ _

/-- The gradient of the mixer's result. -/
theorem final11 (c : Dev nD) (he : Entries m c) : (dats m 0 c).arrAt 11 cfg0.N = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  frame_out
  have e : ((cfg0.win 11).blk t).view.emb y = ix2 (tok t (y 0)) (y 1) := by blk_ext [idx t] <;> rfl
  rw [e, eq_ix2 y]
  by_cases h : t.val % 16 = 0
  · rw [outsAt0_A m c t h (by omega)]
    frame_out
    exact dmix m c he t (y 0) (y 1)
  · by_cases h1 : t.val % 16 = 15
    · rw [outsAt0_C m c t h h1]
      frame_out
      exact dmix m c he t (y 0) (y 1)
    · rw [outsAt0_B m c t h h1]
      frame_out
      exact dmix m c he t (y 0) (y 1)

/-- The gradient of the residual. -/
theorem final12 (c : Dev nD) (he : Entries m c) : (dats m 0 c).arrAt 12 cfg0.N = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  frame_out
  have e : ((cfg0.win 12).blk t).view.emb y = ix2 (tok t (y 0)) (y 1) := by blk_ext [idx t] <;> rfl
  rw [e, eq_ix2 y]
  by_cases h : t.val % 16 = 0
  · rw [outsAt0_A m c t h (by omega)]
    frame_out
    exact dres m c he t (y 0) (y 1)
  · by_cases h1 : t.val % 16 = 15
    · rw [outsAt0_C m c t h h1]
      frame_out
      exact dres m c he t (y 0) (y 1)
    · rw [outsAt0_B m c t h h1]
      frame_out
      exact dres m c he t (y 0) (y 1)

/-- The sums: the gradients of scale, shift, gate and of the norm's scale and shift, zeros. -/
theorem final13 (c : Dev nD) (he : Entries m c) : (dats m 0 c).arrAt 13 cfg0.N = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  have ht : t.val % 16 = 15 := (flush0_13 t).mp hf
  blk_simp
  rw [after0_13]
  frame_out
  have e : ((cfg0.win 13).blk t).view.emb y = ix2 (y 0) (y 1) := by blk_ext [idx t] <;> rfl
  rw [e, eq_ix2 y]
  rcases Nat.lt_or_ge (y 0).val 5 with hy | hy
  · have h : y 0 = (0 : Fin 8) ∨ y 0 = (1 : Fin 8) ∨ y 0 = (2 : Fin 8) ∨ y 0 = (3 : Fin 8) ∨ y 0 = (4 : Fin 8) := by
      have : (y 0).val = 0 ∨ (y 0).val = 1 ∨ (y 0).val = 2 ∨ (y 0).val = 3 ∨ (y 0).val = 4 := by omega
      exact this.imp Fin.ext (·.imp Fin.ext (·.imp Fin.ext (·.imp Fin.ext Fin.ext)))
    rcases h with h | h | h | h | h <;> rw [h]
    · exact row0 m c he t ht (y 1)
    · exact row1 m c he t ht (y 1)
    · exact row2 m c he t ht (y 1)
    · exact row3 m c he t ht (y 1)
    · exact row4 m c he t ht (y 1)
  · exact rest m c t ht (y 0) hy (y 1)

/-- The gradient of the merging product's weights. -/
theorem final14 (c : Dev nD) (he : Entries m c) : (dats m 0 c).arrAt 14 cfg0.N = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  refine (dats m 0 c).arrAt_eq_of_covers 14 _ (by decide +kernel) fun t hf y => ?_
  have ht : t.val % 16 = 15 := (flush0_14 t).mp hf
  blk_simp
  rw [after0_14]
  frame_out
  have e : ((cfg0.win 14).blk t).view.emb y = y := by blk_ext [idx t] <;> rfl
  rw [e]
  exact (last_eq m c t ht y).trans (last_w m c he t ht y)

end Cert.MixerTailBwd

end
-- ==== Proof.MixerTailBwdClaim.lean ====
/- The mixer tail's backward: the runs of the idealized kernel and of the reference, and the claim that they hold the same arrays. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.MixerTailBwd
public import Idealize.ShloMosaic.Adequacy
public import Idealize.ShloMosaic.Init

@[expose] public section

noncomputable section

namespace Cert.MixerTailBwd

open Idealize.ShloMosaic Idealize.SL.Sem Idealize.ShloMosaic.TcCoe

/-- The reference's frame. -/
theorem frameReference : Cert.quiescent_Reference8Ideal (hReference8Ideal := Cert.Reference8Ideal.Gen.facts) :=
  fun m g _ => (θ_run _ _ _).mono (fun _ h => ⟨fun c => (h c).2.2.2.2, sem_eq_zero_of_no_sems (by decide) _⟩)
    (Cert.Reference8Ideal.Value.run m g)

/-- The side conditions of the precondition. -/
theorem mixerTailBwdFacts : Cert.Pre_finite_mixer.Facts := by
  constructor <;> decide

instance : Subsingleton Cert.Pre_finite_mixer.S_.Idx := ⟨fun _ _ => funext fun i => i.elim0⟩

attribute [local instance] mixerTailBwdFacts in
open Cert.Pre_finite_mixer in
/-- The precondition says that the entries are real numbers. -/
theorem entries (m : (ℓ : Loc Cert.Kernel8Ideal.nD Cert.Kernel8Ideal.τ Cert.Kernel8Ideal.sig) → Buf (Elt Ideal) ℓ)
    (h : Cert.Pre_Kernel8Ideal m) (c : Dev Cert.Kernel8Ideal.nD) : Entries m c := by
  have e := congrFun (h c) (fun i => i.elim0)
  dsimp only [Cert.Pre_finite_mixer.fn_part2, Cert.Pre_finite_mixer.fn_part1, Cert.Pre_finite_mixer.fn] at e
  have e0 := e
  have e1 := (IntOp.andi_eq_one.1 e0).1
  have e2 := (IntOp.andi_eq_one.1 e1).1
  have e3 := (IntOp.andi_eq_one.1 e2).1
  have e4 := (IntOp.andi_eq_one.1 e3).1
  have e5 := (IntOp.andi_eq_one.1 e4).1
  have e6 := (IntOp.andi_eq_one.1 e5).1
  have e7 := (IntOp.andi_eq_one.1 e6).1
  exact ⟨fun i => Finite.entries (m ((c.tc : Thread Cert.Kernel8Ideal.nD Cert.Kernel8Ideal.τ).loc Cert.Kernel8Ideal.main_arg0)) _ _ _ _ _ _ e7 i,
    fun i => Finite.entries (extf .f32 (m ((c.tc : Thread Cert.Kernel8Ideal.nD Cert.Kernel8Ideal.τ).loc Cert.Kernel8Ideal.main_arg1)) Facts.bitsLt_bf16_f32) _ _ _ _ _ _ (IntOp.andi_eq_one.1 e6).2 i,
    fun i => Finite.entries (extf .f32 (m ((c.tc : Thread Cert.Kernel8Ideal.nD Cert.Kernel8Ideal.τ).loc Cert.Kernel8Ideal.main_arg2)) Facts.bitsLt_bf16_f32) _ _ _ _ _ _ (IntOp.andi_eq_one.1 e5).2 i,
    fun i => Finite.entries (m ((c.tc : Thread Cert.Kernel8Ideal.nD Cert.Kernel8Ideal.τ).loc Cert.Kernel8Ideal.main_arg3)) _ _ _ _ _ _ (IntOp.andi_eq_one.1 e4).2 i,
    fun i => Finite.entries (m ((c.tc : Thread Cert.Kernel8Ideal.nD Cert.Kernel8Ideal.τ).loc Cert.Kernel8Ideal.main_arg4)) _ _ _ _ _ _ (IntOp.andi_eq_one.1 e3).2 i,
    fun i => Finite.entries (m ((c.tc : Thread Cert.Kernel8Ideal.nD Cert.Kernel8Ideal.τ).loc Cert.Kernel8Ideal.main_arg5)) _ _ _ _ _ _ (IntOp.andi_eq_one.1 e2).2 i,
    fun i => Finite.entries (m ((c.tc : Thread Cert.Kernel8Ideal.nD Cert.Kernel8Ideal.τ).loc Cert.Kernel8Ideal.main_arg6)) _ _ _ _ _ _ (IntOp.andi_eq_one.1 e1).2 i,
    fun i => Finite.entries (m ((c.tc : Thread Cert.Kernel8Ideal.nD Cert.Kernel8Ideal.τ).loc Cert.Kernel8Ideal.main_arg7)) _ _ _ _ _ _ (IntOp.andi_eq_one.1 e0).2 i⟩

section
open Cert.Kernel8Ideal Cert.Kernel8Ideal.Gen Cert.Reference8Ideal.Read

/-- The idealized kernel's run: each result at the reference's function of the arguments, and the arguments unchanged. -/
theorem kernelRun (m : (ℓ : Loc nD τ sig) → Buf (Elt Ideal) ℓ) (ρ : Dev nD → PrngReg)
    (h0 : ∀ c : Dev nD, Entries m c) :
    θ_run (defs (F := Ideal)) (onTc (τ := τ) (main (F := Ideal))) ⟨m, fun _ => 0, ρ⟩ fun r => ∀ c : Dev nD,
      r.2.mem ((c.tc : Thread nD τ).loc main_v0_0) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_1) = val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_2) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_3) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).1 11).trans (final11 m c (h0 c)),
      ((h c).1 12).trans (final12 m c (h0 c)),
      ((h c).1 13).trans (final13 m c (h0 c)),
      ((h c).1 14).trans (final14 m c (h0 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩) (run_main m ρ)

end

attribute [local instance] Cert.Kernel8Ideal.Gen.facts Cert.Reference8Ideal.Gen.facts mixerTailBwdFacts in
/-- The mixer tail's backward: kernel and reference hold the same arrays. -/
theorem agree : Cert.algebraic_Kernel8Ideal_Reference8Ideal := by
  intro m g m' g' hpre hagree
  refine ⟨fun c => Cert.Reference8Ideal.Read.val_main_v169 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)),
    fun c => Cert.Reference8Ideal.Read.val_main_v156 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)),
    fun c => Cert.Reference8Ideal.Read.val_main_v168 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)),
    fun c => Cert.Reference8Ideal.Read.val_main_v172 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg9)),
    (θ_run _ _ _).mono (fun r h c => ?_) (kernelRun m g (entries m hpre)), (θ_run _ _ _).mono (fun r h c => ?_) (Cert.Reference8Ideal.Value.run m' g')⟩
  · exact h c
  · obtain ⟨h0, h1, h2, h3, hargs⟩ := h c
    obtain ⟨e0, e1, e2, e3, e4, e5, e6, e7, e8, e9⟩ := hagree c
    refine ⟨h0.trans ?_, h1.trans ?_, h2.trans ?_, h3.trans ?_, hargs⟩
    · beta_reduce; rw [← e0, ← e1, ← e2, ← e3, ← e4, ← e5, ← e6, ← e7]; exact Cert.Reference8Ideal.Read.val_main_v169_eq _
    · beta_reduce; rw [← e0, ← e1, ← e2, ← e3, ← e4, ← e5, ← e6, ← e7]; exact Cert.Reference8Ideal.Read.val_main_v156_eq _
    · beta_reduce; rw [← e0, ← e1, ← e2, ← e3, ← e4, ← e5, ← e6, ← e7]; exact Cert.Reference8Ideal.Read.val_main_v168_eq _
    · beta_reduce; rw [← e0, ← e1, ← e2, ← e3, ← e4, ← e5, ← e6, ← e7, ← e9]; exact Cert.Reference8Ideal.Read.val_main_v172_eq _

end Cert.MixerTailBwd

end
-- ==== Proof.FfnTail.lean ====
/- The gradient of the loss through the FFN tail. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import Idealize.ShloMosaic.Lib.Claim
public import proofs.«01_k».proof.Proof.RealNorm
public import proofs.«01_k».proof.Proof.Rows

@[expose] public section

set_option maxRecDepth 16384

noncomputable section

open Idealize.ShloMosaic Idealize.ShloMosaic.TcCoe Idealize.SL.Sem
open Idealize.ShloMosaic.Pipeline (Dat)
open Cert.Finite (IsReal Row)
open scoped BigOperators

namespace Cert.FfnTail

open Cert.Kernel9Ideal Cert.Kernel9Ideal.Gen Cert.Reference9Ideal.Read

variable (m : (ℓ : Loc nD τ sig) → Buf (Elt Ideal) ℓ)

/-- Every window's block index at every grid point. -/
theorem idx : ∀ t : Fin cfg0.N, win0_0.index t = ![t.val, 0] ∧ win0_2.index t = ![0, 2, 0]
    ∧ win0_1.index t = ![t.val, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

/-- On device `c` the entries of the arrays the precondition names are real numbers. -/
def Entries (c : Dev nD) : Prop :=
  (∀ i, IsReal (m ((c : Thread nD τ).loc main_arg0) i))
    ∧ (∀ i, IsReal (m ((c : Thread nD τ).loc main_arg1) i))
    ∧ (∀ i, IsReal (m ((c : Thread nD τ).loc main_arg2) i))
    ∧ (∀ i, IsReal (m ((c : Thread nD τ).loc main_arg3) i))
    ∧ (∀ i, IsReal (m ((c : Thread nD τ).loc main_arg4) i))
    ∧ (∀ i, IsReal (m ((c : Thread nD τ).loc main_arg5) i))
    ∧ (∀ i, IsReal (m ((c : Thread nD τ).loc main_arg6) i))

/-- The constants as real numbers: one half, -/
theorem half : Ideal.ofBits .f32 0x3F000000#32 = ((1 / 2 : ℝ) : EReal) := by
  simp [Ideal.ofBits, Ideal.ieee]
  rw [← EReal.coe_mul]
  norm_num

/-- two, -/
theorem two : Ideal.ofBits .f32 0x40000000#32 = ((2 : ℝ) : EReal) := by
  simp [Ideal.ofBits, Ideal.ieee]
  rw [← EReal.coe_mul]
  norm_num

/-- the reciprocal of the width, -/
theorem per_entry : Ideal.ofBits .f32 0x3A800000#32 = ((1 / 1024 : ℝ) : EReal) := by
  simp [Ideal.ofBits, Ideal.ieee]
  rw [← EReal.coe_mul]
  norm_num

/-- half of it, -/
theorem per_loss : Ideal.ofBits .f32 0x3A000000#32 = ((1 / 2048 : ℝ) : EReal) := by
  simp [Ideal.ofBits, Ideal.ieee]
  rw [← EReal.coe_mul]
  norm_num

/-- and the residual's factor, some real number. -/
theorem alpha : IsReal (Ideal.ofBits .f32 0x3F9837F0#32) := by
  simp [Ideal.ofBits, Ideal.ieee]
  exact (IsReal.coe _).mul (IsReal.coe _)

/-- Row `r` of the tile of point `t`, as a token. -/
def tok (t : Fin cfg0.N) (r : Fin 512) : Fin 4096 :=
  ⟨t.val * 512 + r.val, by have := t.isLt; have h : t.val < 8 := this; have := r.isLt; omega⟩

/-- The output product's weights: every shard's rows of the gathered array. -/
theorem down_at (c : Dev nD) (t : Fin cfg0.N) (y : S8x352x1024.Idx) : X0_2 m c t y
    = m ((c : Thread nD τ).loc main_arg2) (ix3 (y 0) ⟨704 + (y 1).val, by have : (y 1).val < 352 := (y 1).isLt; omega⟩ (y 2)) := by
  unfold X0_2 Pipeline.Window.fill
  rw [dif_pos (moved0_2 t y)]
  blk_point [iblk, V, idx t]

/-- The blocks a point reads: the residual's rows, -/
theorem x_at (c : Dev nD) (t : Fin cfg0.N) (r : Fin 512) (q : Fin 1024) : iblk (F := Ideal) m c 0 t (ix2 r q) = m ((c : Thread nD τ).loc main_arg0) (ix2 (tok t r) q) := by
  blk_point [iblk, V, idx t, tok]

/-- the activations' rows, -/
theorem act_at (c : Dev nD) (t : Fin cfg0.N) (r : Fin 512) (q : Fin 2816) : iblk (F := Ideal) m c 1 t (ix2 r q) = m ((c : Thread nD τ).loc main_arg1) (ix2 (tok t r) q) := by
  blk_point [iblk, V, idx t, tok]

/-- the gate, -/
theorem gate_at (c : Dev nD) (t : Fin cfg0.N) (q : Fin 1024) : iblk (F := Ideal) m c 3 t (ix2 (5 : Fin 6) q) = m ((c : Thread nD τ).loc main_arg3) (ix2 (5 : Fin 6) q) := by
  blk_point [iblk, V, idx t]

/-- the norm's scale, -/
theorem scale_at (c : Dev nD) (t : Fin cfg0.N) (q : Fin 1024) : iblk (F := Ideal) m c 4 t (ix2 (0 : Fin 1) q) = m ((c : Thread nD τ).loc main_arg4) (ix2 (0 : Fin 1) q) := by
  blk_point [iblk, V, idx t]

/-- its shift, -/
theorem shift_at (c : Dev nD) (t : Fin cfg0.N) (q : Fin 1024) : iblk (F := Ideal) m c 5 t (ix2 (0 : Fin 1) q) = m ((c : Thread nD τ).loc main_arg5) (ix2 (0 : Fin 1) q) := by
  blk_point [iblk, V, idx t]

/-- and the target's rows. -/
theorem target_at (c : Dev nD) (t : Fin cfg0.N) (r : Fin 512) (q : Fin 1024) : iblk (F := Ideal) m c 6 t (ix2 r q) = m ((c : Thread nD τ).loc main_arg6) (ix2 (tok t r) q) := by
  blk_point [iblk, V, idx t, tok]

/-- The output product. -/
theorem prod (c : Dev nD) (t : Fin cfg0.N) (r : Fin 512) (q : Fin 1024) : k0_pay6 (F := Ideal) (iblk m c 1 t) (X0_2 m c t) (ix2 r q)
    = val_main_v4 (F := Ideal) (m ((c : Thread nD τ).loc main_arg1)) (m ((c : Thread nD τ).loc main_arg2)) (ix2 (tok t r) q) := by
  pointwise [k0_pay6, val_main_v4, val_main_v0, val_main_v3, val_main_v2, val_main_v1]
  simp only [down_at, act_at]
  refine Finset.sum_congr rfl fun k _ => ?_
  blk_point [tok]

/-- A row of the sum, less its mean. -/
theorem centred (c : Dev nD) (t : Fin cfg0.N) (r : Fin 512) (q : Fin 1024) : k0_pay7 (F := Ideal) (iblk m c 1 t) (X0_2 m c t) (View.ld (iblk m c 3 t) (Rect.unit ![5, 0] ![1, 1024] inb_S6x1024_S1x1024_5_0)) (iblk m c 0 t) (ix2 r q)
    = val_main_v20 (F := Ideal) (m ((c : Thread nD τ).loc main_arg0)) (m ((c : Thread nD τ).loc main_arg1)) (m ((c : Thread nD τ).loc main_arg2)) (m ((c : Thread nD τ).loc main_arg3)) (ix2 (tok t r) q) := by
  pointwise [k0_pay7, val_main_v20, val_main_v14, val_main_v10, val_main_v9, val_main_cst, val_main_v13, val_main_v12, val_main_v11, val_main_v6, val_main_v5, val_main_v19, val_main_v18, val_main_v16, val_main_v15, val_main_cst_0, val_main_v17, val_main_cst_1]
  simp only [prod, x_at, gate_at]

/-- A row's reciprocal deviation. -/
theorem rstd (c : Dev nD) (t : Fin cfg0.N) (r : Fin 512) : k0_pay8 (F := Ideal) (iblk m c 1 t) (X0_2 m c t) (View.ld (iblk m c 3 t) (Rect.unit ![5, 0] ![1, 1024] inb_S6x1024_S1x1024_5_0)) (iblk m c 0 t) (ix2 r (0 : Fin 1))
    = val_main_v28 (F := Ideal) (m ((c : Thread nD τ).loc main_arg0)) (m ((c : Thread nD τ).loc main_arg1)) (m ((c : Thread nD τ).loc main_arg2)) (m ((c : Thread nD τ).loc main_arg3)) (ix2 (tok t r) (0 : Fin 1)) := by
  pointwise [k0_pay8, val_main_v28, val_main_v27, val_main_v25, val_main_v23, val_main_v22, val_main_v21, val_main_cst_2, val_main_v24, val_main_cst_3, val_main_v26, val_main_cst_4]
  simp only [centred]

/-- The normed row. -/
theorem normed (c : Dev nD) (t : Fin cfg0.N) (r : Fin 512) (q : Fin 1024) : k0_pay9 (F := Ideal) (iblk m c 1 t) (X0_2 m c t) (View.ld (iblk m c 3 t) (Rect.unit ![5, 0] ![1, 1024] inb_S6x1024_S1x1024_5_0)) (iblk m c 0 t) (ix2 r q)
    = val_main_v33 (F := Ideal) (m ((c : Thread nD τ).loc main_arg0)) (m ((c : Thread nD τ).loc main_arg1)) (m ((c : Thread nD τ).loc main_arg2)) (m ((c : Thread nD τ).loc main_arg3)) (ix2 (tok t r) q) := by
  pointwise [k0_pay9, val_main_v33, val_main_v32]
  simp only [centred, rstd]

/-- What the layer's result misses the target by. -/
theorem missed (c : Dev nD) (t : Fin cfg0.N) (r : Fin 512) (q : Fin 1024) : k0_pay11 (F := Ideal) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t) (ix2 r q)
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) q) := by
  pointwise [k0_pay10, k0_pay11, val_main_v40, val_main_v39, val_main_v36, val_main_v35, val_main_v34, val_main_v7, val_main_v38, val_main_v37, val_main_v8]
  simp only [normed, scale_at, shift_at, target_at]

/-- A centred row, its variance and its reciprocal deviation. -/
theorem normRow (c : Dev nD) (h : Entries m c) (r : Fin 4096) : Row (fun q => val_main_v20 (F := Ideal) (m ((c : Thread nD τ).loc main_arg0)) (m ((c : Thread nD τ).loc main_arg1)) (m ((c : Thread nD τ).loc main_arg2)) (m ((c : Thread nD τ).loc main_arg3)) (ix2 r q))
    (val_main_v27 (F := Ideal) (m ((c : Thread nD τ).loc main_arg0)) (m ((c : Thread nD τ).loc main_arg1)) (m ((c : Thread nD τ).loc main_arg2)) (m ((c : Thread nD τ).loc main_arg3)) (ix2 r (0 : Fin 1))) (val_main_v28 (F := Ideal) (m ((c : Thread nD τ).loc main_arg0)) (m ((c : Thread nD τ).loc main_arg1)) (m ((c : Thread nD τ).loc main_arg2)) (m ((c : Thread nD τ).loc main_arg3)) (ix2 r (0 : Fin 1))) := by
  have hh : ∀ q, IsReal (val_main_v4 (F := Ideal) (m ((c : Thread nD τ).loc main_arg1)) (m ((c : Thread nD τ).loc main_arg2)) (ix2 r q)) := fun q => by
    pointwise [val_main_v4, val_main_v0, val_main_v3, val_main_v2, val_main_v1]
    exact IsReal.sum _ _ fun k _ => (h.2.1 _).mul (h.2.2.1 _)
  have hX : ∀ q, IsReal (val_main_v14 (F := Ideal) (m ((c : Thread nD τ).loc main_arg0)) (m ((c : Thread nD τ).loc main_arg1)) (m ((c : Thread nD τ).loc main_arg2)) (m ((c : Thread nD τ).loc main_arg3)) (ix2 r q)) := fun q => by
    pointwise [val_main_v14, val_main_v10, val_main_v9, val_main_cst, val_main_v13, val_main_v12, val_main_v11, val_main_v6, val_main_v5]
    exact (alpha.mul (h.1 _)).add ((h.2.2.2.1 _).mul (hh q))
  obtain ⟨y, hy, hs⟩ := Cert.Finite.centre _ hX
  have hX : ∀ q : Fin 1024, val_main_v20 (F := Ideal) (m ((c : Thread nD τ).loc main_arg0)) (m ((c : Thread nD τ).loc main_arg1)) (m ((c : Thread nD τ).loc main_arg2)) (m ((c : Thread nD τ).loc main_arg3)) (ix2 r q) = (y q : EReal) := fun q => by
    pointwise [val_main_v20, val_main_v19, val_main_v18, val_main_v16, val_main_v15, val_main_cst_0, val_main_v17, val_main_cst_1]
    exact hy q
  have hr := Cert.Finite.row _ y hX hs
  pointwise [val_main_v28, val_main_v27, val_main_v25, val_main_v23, val_main_v22, val_main_v21, val_main_cst_2, val_main_v24, val_main_cst_3, val_main_v26, val_main_cst_4]
  exact hr

/-- It is a real number. -/
theorem missed_real (c : Dev nD) (h : Entries m c) (r : Fin 4096) (q : Fin 1024) : IsReal (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q)) := by
  obtain ⟨hX, _, hR⟩ := (normRow m c h r).isReal
  pointwise [val_main_v40, val_main_v39, val_main_v36, val_main_v33, val_main_v32, val_main_v35, val_main_v34, val_main_v7, val_main_v38, val_main_v37, val_main_v8]
  exact ((((hX q).mul hR).mul (h.2.2.2.2.1 _)).add (h.2.2.2.2.2.1 _)).sub (h.2.2.2.2.2.2 _)

/-- The gradient of the result. -/
theorem dout (c : Dev nD) (h : Entries m c) (t : Fin cfg0.N) (r : Fin 512) (q : Fin 1024) : k0_pay12 (F := Ideal) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t) (ix2 r q)
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) q) := by
  obtain ⟨p, hp⟩ := missed_real m c h (tok t r) q
  pointwise [k0_pay12, val_main_v54, val_main_v53, val_main_v52, val_main_v50, val_main_v49, val_main_cst_11, val_main_cst_12, val_main_v51, val_main_cst_13, val_main_v43, val_main_v42, val_main_cst_6]
  simp only [missed]
  rw [hp, half, two, Cert.Finite.div_width, per_entry]
  norm_cast
  ring

/-- It is a real number. -/
theorem dout_real (c : Dev nD) (h : Entries m c) (r : Fin 4096) (q : Fin 1024) : IsReal (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q)) := by
  obtain ⟨p, hp⟩ := missed_real m c h r q
  pointwise [val_main_v54, val_main_v53, val_main_v52, val_main_v50, val_main_v49, val_main_cst_11, val_main_cst_12, val_main_v51, val_main_cst_13, val_main_v43, val_main_v42, val_main_cst_6]
  rw [hp, half, two, Cert.Finite.div_width]
  exact (IsReal.coe _).mul ((IsReal.coe _).mul (IsReal.coe _))

/-- The gradient of the sum that is normed. -/
theorem dsum (c : Dev nD) (h : Entries m c) (t : Fin cfg0.N) (r : Fin 512) (q : Fin 1024) :
    k0_pay1 (F := Ideal) (k0_pay8 (iblk m c 1 t) (X0_2 m c t) (View.ld (iblk m c 3 t) (Rect.unit ![5, 0] ![1, 1024] inb_S6x1024_S1x1024_5_0)) (iblk m c 0 t)) (k0_pay9 (iblk m c 1 t) (X0_2 m c t) (View.ld (iblk m c 3 t) (Rect.unit ![5, 0] ![1, 1024] inb_S6x1024_S1x1024_5_0)) (iblk m c 0 t)) (k0_pay16 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) (k0_pay17 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) k0_pay18 (ix2 r q) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) q) := by
  pointwise [k0_pay1, k0_pay9, k0_pay16, k0_pay17, k0_pay18, val_main_v85, val_main_v77, val_main_v75, val_main_v68, val_main_v62, val_main_v61, val_main_v34, val_main_v7, val_main_v67, val_main_v74, val_main_v73, val_main_v72, val_main_v71, val_main_v69, val_main_v66, val_main_v65, val_main_v64, val_main_cst_18, val_main_v31, val_main_v30, val_main_cst_5, val_main_v29, val_main_v70, val_main_cst_19, val_main_cst_20, val_main_v76, val_main_v84, val_main_v83, val_main_v82, val_main_v80, val_main_v79, val_main_v78, val_main_cst_21, val_main_v81, val_main_cst_22, val_main_cst_23]
  simp only [centred, rstd, dout m c h, scale_at, Fin.sum_univ_one]
  exact (normRow m c h (tok t r)).back _ (fun q => (dout_real m c h (tok t r) q).mul (h.2.2.2.2.1 _)) q

/-- The gradient of the FFN's result at an entry. -/
theorem dffn (c : Dev nD) (h : Entries m c) (t : Fin cfg0.N) (r : Fin 512) (q : Fin 1024) :
    k0_pay3 (F := Ideal) (View.ld (iblk m c 3 t) (Rect.unit ![5, 0] ![1, 1024] inb_S6x1024_S1x1024_5_0)) (k0_pay8 (iblk m c 1 t) (X0_2 m c t) (View.ld (iblk m c 3 t) (Rect.unit ![5, 0] ![1, 1024] inb_S6x1024_S1x1024_5_0)) (iblk m c 0 t)) (k0_pay9 (iblk m c 1 t) (X0_2 m c t) (View.ld (iblk m c 3 t) (Rect.unit ![5, 0] ![1, 1024] inb_S6x1024_S1x1024_5_0)) (iblk m c 0 t)) (k0_pay16 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) (k0_pay17 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) k0_pay18 (ix2 r q) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) q) := by
  pointwise [k0_pay3, val_main_v105, val_main_v87, val_main_v86, val_main_v11, val_main_v6, val_main_v5]
  simp only [dsum m c h, gate_at]

/-- The gradient of the residual at an entry. -/
theorem dres (c : Dev nD) (h : Entries m c) (t : Fin cfg0.N) (r : Fin 512) (q : Fin 1024) :
    k0_pay4 (F := Ideal) (k0_pay8 (iblk m c 1 t) (X0_2 m c t) (View.ld (iblk m c 3 t) (Rect.unit ![5, 0] ![1, 1024] inb_S6x1024_S1x1024_5_0)) (iblk m c 0 t)) (k0_pay9 (iblk m c 1 t) (X0_2 m c t) (View.ld (iblk m c 3 t) (Rect.unit ![5, 0] ![1, 1024] inb_S6x1024_S1x1024_5_0)) (iblk m c 0 t)) (k0_pay16 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) (k0_pay17 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) k0_pay18 (ix2 r q) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) q) := by
  pointwise [k0_pay4, val_main_v93, val_main_v92, val_main_cst_26]
  simp only [dsum m c h]

/-- A tile's entries, summed down a column. -/
def cols (g : FVec Ideal S512x1024 .f32) (q : Fin 1024) : EReal := ∑ k : Fin 512, g (ix2 k q)

/-- A tile's share of the loss. -/
def loss (y u : FVec Ideal S512x1024 .f32) : EReal :=
  (∑ q : Fin 1024, ∑ k : Fin 512, k0_pay11 (F := Ideal) y u (ix2 k q) * k0_pay11 (F := Ideal) y u (ix2 k q)) * Ideal.ofBits .f32 0x3A000000#32

/-- One step of row 0: the gradient of the gate. -/
theorem step0 (h x d : FVec Ideal S512x1024 .f32) (s u w : FVec Ideal S512x1 .f32) (v : FVec Ideal S1x1024 .f32) (q : Fin 1024) :
    k0_pay2 (F := Ideal) h s x d u w v (ix2 (0 : Fin 1) q) = v (ix2 (0 : Fin 1) q) + cols (mulf (k0_pay1 (F := Ideal) s x d u w) h) q := by
  pointwise [k0_pay2, cols]

/-- One step of row 1: the gradient of the norm's scale. -/
theorem step1 (x y u : FVec Ideal S512x1024 .f32) (v : FVec Ideal S1x1024 .f32) (q : Fin 1024) :
    k0_pay14 (F := Ideal) x y u v (ix2 (0 : Fin 1) q) = v (ix2 (0 : Fin 1) q) + cols (mulf (k0_pay12 (F := Ideal) y u) x) q := by
  pointwise [k0_pay14, cols]

/-- One step of row 2: the gradient of its shift. -/
theorem step2 (y u : FVec Ideal S512x1024 .f32) (v : FVec Ideal S1x1024 .f32) (q : Fin 1024) :
    k0_pay15 (F := Ideal) y u v (ix2 (0 : Fin 1) q) = v (ix2 (0 : Fin 1) q) + cols (k0_pay12 (F := Ideal) y u) q := by
  pointwise [k0_pay15, cols]

/-- One step of row 3: the loss. -/
theorem step3 (y u : FVec Ideal S512x1024 .f32) (v : FVec Ideal S1x1024 .f32) (q : Fin 1024) :
    k0_pay13 (F := Ideal) y u v (ix2 (0 : Fin 1) q) = v (ix2 (0 : Fin 1) q) + loss y u := by
  pointwise [k0_pay13, loss]

/-- The zero fill. -/
theorem zero (y : S8x1024.Idx) : k0_pay5 (F := Ideal) y = 0 := by pointwise [k0_pay5]

/-- Row 0 of the sums after the last point: the gradient of the gate. -/
theorem row0 (c : Dev nD) (h : Entries m c) (t : Fin cfg0.N) (ht : t.val % 8 = 7) (q : Fin 1024) :
    ((outsAt0 (F := Ideal) m c t.val t.isLt).2.2 (ix2 (0 : Fin 8) q) : EReal) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (0 : Fin 8) q) := by
  rw [Pipeline.eq_sum_fin_of_reset_step_apply_of_flush (fun n h (q : Fin 1024) => (outsAt0 (F := Ideal) m c n h).2.2 (ix2 (0 : Fin 8) q)) 8 (fun _ => 0)
    (fun (t : Fin cfg0.N) q => cols (mulf (k0_pay1 (k0_pay8 (iblk m c 1 t) (X0_2 m c t) (View.ld (iblk m c 3 t) (Rect.unit ![5, 0] ![1, 1024] inb_S6x1024_S1x1024_5_0)) (iblk m c 0 t)) (k0_pay9 (iblk m c 1 t) (X0_2 m c t) (View.ld (iblk m c 3 t) (Rect.unit ![5, 0] ![1, 1024] inb_S6x1024_S1x1024_5_0)) (iblk m c 0 t)) (k0_pay16 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) (k0_pay17 (iblk m c 4 t) (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) k0_pay18) (k0_pay6 (iblk m c 1 t) (X0_2 m c t))) q)
    (fun t h q => by
      rw [outsAt0_A m c t h]
      frame_out
      rw [Cert.Rows.canon_hit (by rfl), step0, Cert.Rows.load_row (o := 0) (0 : Fin 8) (by rfl),
        Cert.Rows.canon_miss (by simp), Cert.Rows.canon_miss (by simp), Cert.Rows.canon_miss (by simp), Cert.Rows.canon_fill, zero]
      rfl)
    (fun t h q => by
      rw [outsAt0_B m c t h]
      frame_out
      rw [Cert.Rows.read_hit (by rfl), step0, Cert.Rows.ld_row (o := 0) (0 : Fin 8) (by rfl)]
      rfl)
    t ht q, zero_add]
  have hN := Pipeline.run_point_lt_of_flush t ht
  have ht8 : t.val < 8 := t.isLt
  pointwise [cols, val_main_v104, val_main_v96, val_main_v91, val_main_v90, val_main_v89, val_main_v88, val_main_cst_24, val_main_cst_25, val_main_v97, val_main_v63, val_main_v60, val_main_v59, val_main_v58, val_main_cst_16, val_main_cst_17, val_main_v98, val_main_v57, val_main_v56, val_main_v55, val_main_cst_14, val_main_cst_15, val_main_v99, val_main_v95, val_main_v48, val_main_cst_10, val_main_v47, val_main_v46, val_main_v44, val_main_v41, val_main_cst_7, val_main_v45, val_main_cst_8, val_main_cst_9, val_main_v100, val_main_v94, val_main_cst_27, val_main_v101, val_main_v102, val_main_v103]
  simp only [dsum m c h, prod]
  rw [Fin.sum_univ_one]
  refine Fin.sum_mul_add_congr fun s k hl => ?_
  have e : tok ⟨8 * (t.val / 8) + s.val, hN s⟩ k = ⟨s.val * 512 + k.val, hl⟩ := Fin.ext (by
    simp only [tok]
    omega)
  rw [e]

/-- Row 1 of the sums after the last point: the gradient of the scale. -/
theorem row1 (c : Dev nD) (h : Entries m c) (t : Fin cfg0.N) (ht : t.val % 8 = 7) (q : Fin 1024) :
    ((outsAt0 (F := Ideal) m c t.val t.isLt).2.2 (ix2 (1 : Fin 8) q) : EReal) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (1 : Fin 8) q) := by
  rw [Pipeline.eq_sum_fin_of_reset_step_apply_of_flush (fun n h (q : Fin 1024) => (outsAt0 (F := Ideal) m c n h).2.2 (ix2 (1 : Fin 8) q)) 8 (fun _ => 0)
    (fun (t : Fin cfg0.N) q => cols (mulf (k0_pay12 (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) (k0_pay9 (iblk m c 1 t) (X0_2 m c t) (View.ld (iblk m c 3 t) (Rect.unit ![5, 0] ![1, 1024] inb_S6x1024_S1x1024_5_0)) (iblk m c 0 t))) q)
    (fun t h q => by
      rw [outsAt0_A m c t h]
      frame_out
      rw [Cert.Rows.canon_miss (by simp), Cert.Rows.canon_miss (by simp), Cert.Rows.canon_hit (by rfl), step1, Cert.Rows.load_row (o := 1) (1 : Fin 8) (by rfl),
        Cert.Rows.canon_miss (by simp), Cert.Rows.canon_fill, zero]
      rfl)
    (fun t h q => by
      rw [outsAt0_B m c t h]
      frame_out
      rw [Cert.Rows.read_miss (by simp), Cert.Rows.read_miss (by simp), Cert.Rows.read_hit (by rfl), step1, Cert.Rows.ld_row (o := 1) (1 : Fin 8) (by rfl)]
      rfl)
    t ht q, zero_add]
  have hN := Pipeline.run_point_lt_of_flush t ht
  have ht8 : t.val < 8 := t.isLt
  pointwise [cols, val_main_v104, val_main_v96, val_main_v91, val_main_v90, val_main_v89, val_main_v88, val_main_cst_24, val_main_cst_25, val_main_v97, val_main_v63, val_main_v60, val_main_v59, val_main_v58, val_main_cst_16, val_main_cst_17, val_main_v98, val_main_v57, val_main_v56, val_main_v55, val_main_cst_14, val_main_cst_15, val_main_v99, val_main_v95, val_main_v48, val_main_cst_10, val_main_v47, val_main_v46, val_main_v44, val_main_v41, val_main_cst_7, val_main_v45, val_main_cst_8, val_main_cst_9, val_main_v100, val_main_v94, val_main_cst_27, val_main_v101, val_main_v102, val_main_v103]
  simp only [dout m c h, normed]
  rw [Fin.sum_univ_one]
  refine Fin.sum_mul_add_congr fun s k hl => ?_
  have e : tok ⟨8 * (t.val / 8) + s.val, hN s⟩ k = ⟨s.val * 512 + k.val, hl⟩ := Fin.ext (by
    simp only [tok]
    omega)
  rw [e]
  exact mul_comm (G := EReal) _ _

/-- Row 2 of the sums after the last point: the gradient of the shift. -/
theorem row2 (c : Dev nD) (h : Entries m c) (t : Fin cfg0.N) (ht : t.val % 8 = 7) (q : Fin 1024) :
    ((outsAt0 (F := Ideal) m c t.val t.isLt).2.2 (ix2 (2 : Fin 8) q) : EReal) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (2 : Fin 8) q) := by
  rw [Pipeline.eq_sum_fin_of_reset_step_apply_of_flush (fun n h (q : Fin 1024) => (outsAt0 (F := Ideal) m c n h).2.2 (ix2 (2 : Fin 8) q)) 8 (fun _ => 0)
    (fun (t : Fin cfg0.N) q => cols (k0_pay12 (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t)) q)
    (fun t h q => by
      rw [outsAt0_A m c t h]
      frame_out
      rw [Cert.Rows.canon_miss (by simp), Cert.Rows.canon_hit (by rfl), step2, Cert.Rows.load_row (o := 2) (2 : Fin 8) (by rfl),
        Cert.Rows.canon_miss (by simp), Cert.Rows.canon_miss (by simp), Cert.Rows.canon_fill, zero]
      rfl)
    (fun t h q => by
      rw [outsAt0_B m c t h]
      frame_out
      rw [Cert.Rows.read_miss (by simp), Cert.Rows.read_hit (by rfl), step2, Cert.Rows.ld_row (o := 2) (2 : Fin 8) (by rfl)]
      rfl)
    t ht q, zero_add]
  have hN := Pipeline.run_point_lt_of_flush t ht
  have ht8 : t.val < 8 := t.isLt
  pointwise [cols, val_main_v104, val_main_v96, val_main_v91, val_main_v90, val_main_v89, val_main_v88, val_main_cst_24, val_main_cst_25, val_main_v97, val_main_v63, val_main_v60, val_main_v59, val_main_v58, val_main_cst_16, val_main_cst_17, val_main_v98, val_main_v57, val_main_v56, val_main_v55, val_main_cst_14, val_main_cst_15, val_main_v99, val_main_v95, val_main_v48, val_main_cst_10, val_main_v47, val_main_v46, val_main_v44, val_main_v41, val_main_cst_7, val_main_v45, val_main_cst_8, val_main_cst_9, val_main_v100, val_main_v94, val_main_cst_27, val_main_v101, val_main_v102, val_main_v103]
  simp only [dout m c h]
  rw [Fin.sum_univ_one]
  refine Fin.sum_mul_add_congr fun s k hl => ?_
  have e : tok ⟨8 * (t.val / 8) + s.val, hN s⟩ k = ⟨s.val * 512 + k.val, hl⟩ := Fin.ext (by
    simp only [tok]
    omega)
  rw [e]

/-- Row 3 of the sums after the last point: the loss. -/
theorem row3 (c : Dev nD) (h : Entries m c) (t : Fin cfg0.N) (ht : t.val % 8 = 7) (q : Fin 1024) :
    ((outsAt0 (F := Ideal) m c t.val t.isLt).2.2 (ix2 (3 : Fin 8) q) : EReal) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (3 : Fin 8) q) := by
  rw [Pipeline.eq_sum_fin_of_reset_step_apply_of_flush (fun n h (q : Fin 1024) => (outsAt0 (F := Ideal) m c n h).2.2 (ix2 (3 : Fin 8) q)) 8 (fun _ => 0)
    (fun (t : Fin cfg0.N) q => loss (k0_pay10 (iblk m c 1 t) (X0_2 m c t) (View.ld (iblk m c 3 t) (Rect.unit ![5, 0] ![1, 1024] inb_S6x1024_S1x1024_5_0)) (iblk m c 0 t) (iblk m c 4 t) (iblk m c 5 t)) (iblk m c 6 t))
    (fun t h q => by
      rw [outsAt0_A m c t h]
      frame_out
      rw [Cert.Rows.canon_miss (by simp), Cert.Rows.canon_miss (by simp), Cert.Rows.canon_miss (by simp), Cert.Rows.canon_hit (by rfl), step3, Cert.Rows.load_row (o := 3) (3 : Fin 8) (by rfl),
        Cert.Rows.canon_fill, zero]
      rfl)
    (fun t h q => by
      rw [outsAt0_B m c t h]
      frame_out
      rw [Cert.Rows.read_miss (by simp), Cert.Rows.read_miss (by simp), Cert.Rows.read_miss (by simp), Cert.Rows.read_hit (by rfl), step3, Cert.Rows.ld_row (o := 3) (3 : Fin 8) (by rfl)]
      rfl)
    t ht q, zero_add]
  have hN := Pipeline.run_point_lt_of_flush t ht
  have ht8 : t.val < 8 := t.isLt
  choose y hy using missed_real m c h
  pointwise [loss, val_main_v104, val_main_v96, val_main_v91, val_main_v90, val_main_v89, val_main_v88, val_main_cst_24, val_main_cst_25, val_main_v97, val_main_v63, val_main_v60, val_main_v59, val_main_v58, val_main_cst_16, val_main_cst_17, val_main_v98, val_main_v57, val_main_v56, val_main_v55, val_main_cst_14, val_main_cst_15, val_main_v99, val_main_v95, val_main_v48, val_main_cst_10, val_main_v47, val_main_v46, val_main_v44, val_main_v41, val_main_cst_7, val_main_v45, val_main_cst_8, val_main_cst_9, val_main_v100, val_main_v94, val_main_cst_27, val_main_v101, val_main_v102, val_main_v103]
  simp only [missed]
  simp only [hy, half, ← EReal.coe_mul, Cert.Finite.coe_sum, Cert.Finite.div_width, per_loss]
  rw [Finset.mul_sum]
  refine congrArg Real.toEReal (Eq.trans (Finset.sum_congr rfl fun s _ => ?_) (Fin.sum_mul_add_congr (S := 8) (n := 512)
    (F := fun s k => 1 / 2 * ((∑ q : Fin 1024, y (tok ⟨8 * (t.val / 8) + s.val, hN s⟩ k) q * y (tok ⟨8 * (t.val / 8) + s.val, hN s⟩ k) q) / 1024)) fun s k hl => ?_))
  · rw [Finset.sum_comm, ← Finset.mul_sum, ← Finset.sum_div]
    ring
  · have e : tok ⟨8 * (t.val / 8) + s.val, hN s⟩ k = ⟨s.val * 512 + k.val, hl⟩ := Fin.ext (by
      simp only [tok]
      omega)
    rw [e]

/-- The other rows stay zero. -/
theorem rest (c : Dev nD) (t : Fin cfg0.N) (ht : t.val % 8 = 7) (r : Fin 8) (hr : 4 ≤ r.val) (q : Fin 1024) :
    ((outsAt0 (F := Ideal) m c t.val t.isLt).2.2 (ix2 r q) : EReal) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  rw [Pipeline.eq_sum_fin_of_reset_step_apply_of_flush (fun n h (q : Fin 1024) => (outsAt0 (F := Ideal) m c n h).2.2 (ix2 r q)) 8 (fun _ => 0) (fun (_ : Fin cfg0.N) _ => 0)
    (fun t h q => by
      rw [outsAt0_A m c t h]
      frame_out
      repeat rw [Cert.Rows.canon_miss (by omega)]
      rw [Cert.Rows.canon_fill, zero, add_zero])
    (fun t h q => by
      rw [outsAt0_B m c t h]
      frame_out
      repeat rw [Cert.Rows.read_miss (by omega)]
      rw [View.writes_nil, add_zero]
      exact congrFun (Memref.IsWhole.read_unread _ _) _)
    t ht q, zero_add, Finset.sum_const_zero]
  pointwise [val_main_v104, val_main_v96, val_main_v91, val_main_v90, val_main_v89, val_main_v88, val_main_cst_24, val_main_cst_25, val_main_v97, val_main_v63, val_main_v60, val_main_v59, val_main_v58, val_main_cst_16, val_main_cst_17, val_main_v98, val_main_v57, val_main_v56, val_main_v55, val_main_cst_14, val_main_cst_15, val_main_v99, val_main_v95, val_main_v48, val_main_cst_10, val_main_v47, val_main_v46, val_main_v44, val_main_v41, val_main_cst_7, val_main_v45, val_main_cst_8, val_main_cst_9, val_main_v100, val_main_v94, val_main_cst_27, val_main_v101, val_main_v102, val_main_v103]
  rw [dif_neg (by omega), dif_neg (by omega), dif_neg (by omega), dif_neg (by omega)]
  simp

/-- The gradient of the FFN's result. -/
theorem final7 (c : Dev nD) (he : Entries m c) : (dats m 0 c).arrAt 7 cfg0.N = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  have e : ((cfg0.win 7).blk t).view.emb y = ix2 (tok t (y 0)) (y 1) := by blk_ext [idx t] <;> rfl
  rw [e, eq_ix2 y]
  by_cases h : t.val % 8 = 0
  · rw [outsAt0_A m c t h]
    frame_out
    exact dffn m c he t (y 0) (y 1)
  · rw [outsAt0_B m c t h]
    frame_out
    exact dffn m c he t (y 0) (y 1)

/-- The gradient of the residual. -/
theorem final8 (c : Dev nD) (he : Entries m c) : (dats m 0 c).arrAt 8 cfg0.N = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  have e : ((cfg0.win 8).blk t).view.emb y = ix2 (tok t (y 0)) (y 1) := by blk_ext [idx t] <;> rfl
  rw [e, eq_ix2 y]
  by_cases h : t.val % 8 = 0
  · rw [outsAt0_A m c t h]
    frame_out
    exact dres m c he t (y 0) (y 1)
  · rw [outsAt0_B m c t h]
    frame_out
    exact dres m c he t (y 0) (y 1)

/-- The sums: the gradients of gate, scale and shift, the loss, zeros. -/
theorem final9 (c : Dev nD) (he : Entries m c) : (dats m 0 c).arrAt 9 cfg0.N = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht : t.val % 8 = 7 := (flush0_9 t).mp hf
  blk_simp
  rw [after0_9]
  frame_out
  have e : ((cfg0.win 9).blk t).view.emb y = ix2 (y 0) (y 1) := by blk_ext [idx t] <;> rfl
  rw [e, eq_ix2 y]
  rcases Nat.lt_or_ge (y 0).val 4 with hy | hy
  · have h : y 0 = (0 : Fin 8) ∨ y 0 = (1 : Fin 8) ∨ y 0 = (2 : Fin 8) ∨ y 0 = (3 : Fin 8) := by
      have : (y 0).val = 0 ∨ (y 0).val = 1 ∨ (y 0).val = 2 ∨ (y 0).val = 3 := by omega
      exact this.imp Fin.ext (·.imp Fin.ext (·.imp Fin.ext Fin.ext))
    rcases h with h | h | h | h <;> rw [h]
    · exact row0 m c he t ht (y 1)
    · exact row1 m c he t ht (y 1)
    · exact row2 m c he t ht (y 1)
    · exact row3 m c he t ht (y 1)
  · exact rest m c t ht (y 0) hy (y 1)

end Cert.FfnTail

end
-- ==== Proof.FfnTailClaim.lean ====
/- The FFN's tail with the loss and its backward: the runs of the idealized kernel and of the reference, and the claim that they hold the same arrays. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.FfnTail
public import Idealize.ShloMosaic.Adequacy
public import Idealize.ShloMosaic.Init

@[expose] public section

noncomputable section

namespace Cert.FfnTail

open Idealize.ShloMosaic Idealize.SL.Sem Idealize.ShloMosaic.TcCoe

/-- The reference's frame. -/
theorem frameReference : Cert.quiescent_Reference9Ideal (hReference9Ideal := Cert.Reference9Ideal.Gen.facts) :=
  fun m g _ => (θ_run _ _ _).mono (fun _ h => ⟨fun c => (h c).2.2.2, sem_eq_zero_of_no_sems (by decide) _⟩)
    (Cert.Reference9Ideal.Value.run m g)

/-- The side conditions of the precondition. -/
theorem ffnTailFacts : Cert.Pre_finite_tail.Facts := by
  constructor <;> decide

instance : Subsingleton Cert.Pre_finite_tail.S_.Idx := ⟨fun _ _ => funext fun i => i.elim0⟩

attribute [local instance] ffnTailFacts in
open Cert.Pre_finite_tail in
/-- The precondition says that the entries are real numbers. -/
theorem entries (m : (ℓ : Loc Cert.Kernel9Ideal.nD Cert.Kernel9Ideal.τ Cert.Kernel9Ideal.sig) → Buf (Elt Ideal) ℓ)
    (h : Cert.Pre_Kernel9Ideal m) (c : Dev Cert.Kernel9Ideal.nD) : Entries m c := by
  have e := congrFun (h c) (fun i => i.elim0)
  dsimp only [Cert.Pre_finite_tail.fn_part2, Cert.Pre_finite_tail.fn_part1, Cert.Pre_finite_tail.fn] at e
  have e0 := e
  have e1 := (IntOp.andi_eq_one.1 e0).1
  have e2 := (IntOp.andi_eq_one.1 e1).1
  have e3 := (IntOp.andi_eq_one.1 e2).1
  have e4 := (IntOp.andi_eq_one.1 e3).1
  have e5 := (IntOp.andi_eq_one.1 e4).1
  have e6 := (IntOp.andi_eq_one.1 e5).1
  exact ⟨fun i => Finite.entries (m ((c.tc : Thread Cert.Kernel9Ideal.nD Cert.Kernel9Ideal.τ).loc Cert.Kernel9Ideal.main_arg0)) _ _ _ _ _ _ e6 i,
    fun i => Finite.entries (extf .f32 (m ((c.tc : Thread Cert.Kernel9Ideal.nD Cert.Kernel9Ideal.τ).loc Cert.Kernel9Ideal.main_arg1)) Facts.bitsLt_bf16_f32) _ _ _ _ _ _ (IntOp.andi_eq_one.1 e5).2 i,
    fun i => Finite.entries (extf .f32 (m ((c.tc : Thread Cert.Kernel9Ideal.nD Cert.Kernel9Ideal.τ).loc Cert.Kernel9Ideal.main_arg2)) Facts.bitsLt_bf16_f32) _ _ _ _ _ _ (IntOp.andi_eq_one.1 e4).2 i,
    fun i => Finite.entries (m ((c.tc : Thread Cert.Kernel9Ideal.nD Cert.Kernel9Ideal.τ).loc Cert.Kernel9Ideal.main_arg3)) _ _ _ _ _ _ (IntOp.andi_eq_one.1 e3).2 i,
    fun i => Finite.entries (m ((c.tc : Thread Cert.Kernel9Ideal.nD Cert.Kernel9Ideal.τ).loc Cert.Kernel9Ideal.main_arg4)) _ _ _ _ _ _ (IntOp.andi_eq_one.1 e2).2 i,
    fun i => Finite.entries (m ((c.tc : Thread Cert.Kernel9Ideal.nD Cert.Kernel9Ideal.τ).loc Cert.Kernel9Ideal.main_arg5)) _ _ _ _ _ _ (IntOp.andi_eq_one.1 e1).2 i,
    fun i => Finite.entries (m ((c.tc : Thread Cert.Kernel9Ideal.nD Cert.Kernel9Ideal.τ).loc Cert.Kernel9Ideal.main_arg6)) _ _ _ _ _ _ (IntOp.andi_eq_one.1 e0).2 i⟩

section
open Cert.Kernel9Ideal Cert.Kernel9Ideal.Gen Cert.Reference9Ideal.Read

/-- The idealized kernel's run: each result at the reference's function of the arguments, and the arguments unchanged. -/
theorem kernelRun (m : (ℓ : Loc nD τ sig) → Buf (Elt Ideal) ℓ) (ρ : Dev nD → PrngReg)
    (h0 : ∀ c : Dev nD, Entries m c) :
    θ_run (defs (F := Ideal)) (onTc (τ := τ) (main (F := Ideal))) ⟨m, fun _ => 0, ρ⟩ fun r => ∀ c : Dev nD,
      r.2.mem ((c.tc : Thread nD τ).loc main_v0_0) = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_2) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 7).trans (final7 m c (h0 c)),
      ((h c).1 8).trans (final8 m c (h0 c)),
      ((h c).1 9).trans (final9 m c (h0 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end

attribute [local instance] Cert.Kernel9Ideal.Gen.facts Cert.Reference9Ideal.Gen.facts ffnTailFacts in
/-- The FFN's tail with the loss and its backward: kernel and reference hold the same arrays. -/
theorem agree : Cert.algebraic_Kernel9Ideal_Reference9Ideal := by
  intro m g m' g' hpre hagree
  refine ⟨fun c => Cert.Reference9Ideal.Read.val_main_v105 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)),
    fun c => Cert.Reference9Ideal.Read.val_main_v93 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)),
    fun c => Cert.Reference9Ideal.Read.val_main_v104 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)),
    (θ_run _ _ _).mono (fun r h c => ?_) (kernelRun m g (entries m hpre)), (θ_run _ _ _).mono (fun r h c => ?_) (Cert.Reference9Ideal.Value.run m' g')⟩
  · exact h c
  · obtain ⟨h0, h1, h2, hargs⟩ := h c
    obtain ⟨e0, e1, e2, e3, e4, e5, e6⟩ := hagree c
    refine ⟨h0.trans ?_, h1.trans ?_, h2.trans ?_, hargs⟩
    · beta_reduce; rw [← e0, ← e1, ← e2, ← e3, ← e4, ← e5, ← e6]; exact Cert.Reference9Ideal.Read.val_main_v105_eq _
    · beta_reduce; rw [← e0, ← e1, ← e2, ← e3, ← e4, ← e5, ← e6]; exact Cert.Reference9Ideal.Read.val_main_v93_eq _
    · beta_reduce; rw [← e0, ← e1, ← e2, ← e3, ← e4, ← e5, ← e6]; exact Cert.Reference9Ideal.Read.val_main_v104_eq _

end Cert.FfnTail

end
-- ==== Proof.ModulateBwd.lean ====
/- The backward of the modulated layer norm. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Pipeline.ReadBack
public import Idealize.ShloMosaic.Lib.Claim
public import proofs.«01_k».proof.Proof.RealNorm
public import proofs.«01_k».proof.Proof.Rows

@[expose] public section

set_option maxRecDepth 16384

noncomputable section

open Idealize.ShloMosaic Idealize.ShloMosaic.TcCoe Idealize.SL.Sem
open Idealize.ShloMosaic.Pipeline (Dat)
open Cert.Finite (IsReal Row)
open scoped BigOperators

namespace Cert.ModulateBwd

open Cert.Kernel10Ideal Cert.Kernel10Ideal.Gen Cert.Reference10Ideal.Read

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![0, 0] :=
  (by decide +kernel : ∀ t : Fin grid0.N, _)

/-- On device `c` the entries of the arrays the precondition names are real numbers. -/
def Entries (c : Dev nD) : Prop :=
  (∀ i, IsReal (m ((c : Thread nD τ).loc main_arg0) i))
    ∧ (∀ i, IsReal (m ((c : Thread nD τ).loc main_arg1) i))
    ∧ (∀ i, IsReal (m ((c : Thread nD τ).loc main_arg2) i))

/-- Row `r` of the tile of point `t`, as a token. -/
def tok (t : Fin cfg0.N) (r : Fin 512) : Fin 4096 :=
  ⟨t.val * 512 + r.val, by have := t.isLt; have h : t.val < 8 := this; have := r.isLt; omega⟩

/-- A row less its mean. -/
theorem centred (c : Dev nD) (t : Fin cfg0.N) (r : Fin 512) (q : Fin 1024) : k0_pay3 (F := Ideal) (iblk m c 0 t) (ix2 r q)
    = val_main_v9 (F := Ideal) (m ((c : Thread nD τ).loc main_arg0)) (ix2 (tok t r) q) := by
  pointwise [k0_pay3, tok, val_main_v9, val_main_v8, val_main_v7, val_main_v5, val_main_v4, val_main_cst, val_main_v6, val_main_cst_0]
  blk_point [iblk, V, idx t]

/-- A row's reciprocal deviation. -/
theorem rstd (c : Dev nD) (t : Fin cfg0.N) (r : Fin 512) : k0_pay4 (F := Ideal) (iblk m c 0 t) (ix2 r (0 : Fin 1))
    = val_main_v17 (F := Ideal) (m ((c : Thread nD τ).loc main_arg0)) (ix2 (tok t r) (0 : Fin 1)) := by
  pointwise [k0_pay4, val_main_v17, val_main_v16, val_main_v14, val_main_v12, val_main_v11, val_main_v10, val_main_cst_1, val_main_v13, val_main_cst_2, val_main_v15, val_main_cst_3]
  simp only [centred]

/-- The blocks a point reads beside the row: the gradient, -/
theorem du_at (c : Dev nD) (t : Fin cfg0.N) (r : Fin 512) (q : Fin 1024) :
    iblk (F := Ideal) m c 1 t (ix2 r q) = m ((c : Thread nD τ).loc main_arg1) (ix2 (tok t r) q) := by
  blk_point [iblk, V, idx t, tok]

/-- the scale -/
theorem scale_at (c : Dev nD) (t : Fin cfg0.N) (q : Fin 1024) :
    iblk (F := Ideal) m c 2 t (ix2 (1 : Fin 6) q) = m ((c : Thread nD τ).loc main_arg2) (ix2 (1 : Fin 6) q) := by
  blk_point [iblk, V, idx t]

/-- and what is added to the result. -/
theorem part (c : Dev nD) (t : Fin cfg0.N) (r : Fin 512) (q : Fin 1024) :
    iblk (F := Ideal) m c 3 t (ix2 r q) = m ((c : Thread nD τ).loc main_arg3) (ix2 (tok t r) q) := by
  blk_point [iblk, V, idx t, tok]

/-- A centred row, its variance and its reciprocal deviation. -/
theorem normRow (c : Dev nD) (h : Entries m c) (r : Fin 4096) : Row (fun q => val_main_v9 (F := Ideal) (m ((c : Thread nD τ).loc main_arg0)) (ix2 r q))
    (val_main_v16 (F := Ideal) (m ((c : Thread nD τ).loc main_arg0)) (ix2 r (0 : Fin 1))) (val_main_v17 (F := Ideal) (m ((c : Thread nD τ).loc main_arg0)) (ix2 r (0 : Fin 1))) := by
  obtain ⟨y, hy, hs⟩ := Cert.Finite.centre (fun q => m ((c : Thread nD τ).loc main_arg0) (ix2 r q)) fun q => h.1 _
  have hX : ∀ q : Fin 1024, val_main_v9 (F := Ideal) (m ((c : Thread nD τ).loc main_arg0)) (ix2 r q) = (y q : EReal) := fun q => by
    pointwise [val_main_v9, val_main_v8, val_main_v7, val_main_v5, val_main_v4, val_main_cst, val_main_v6, val_main_cst_0]
    exact hy q
  have hr := Cert.Finite.row _ y hX hs
  pointwise [val_main_v17, val_main_v16, val_main_v14, val_main_v12, val_main_v11, val_main_v10, val_main_cst_1, val_main_v13, val_main_cst_2, val_main_v15, val_main_cst_3]
  exact hr

/-- The gradient of the row. -/
theorem dx (c : Dev nD) (h : Entries m c) (t : Fin cfg0.N) (r : Fin 512) (q : Fin 1024) :
    k0_pay1 (k0_pay4 (iblk m c 0 t)) (k0_pay5 (iblk m c 0 t)) (iblk m c 1 t) (View.ld (iblk m c 2 t) (Rect.unit ![1, 0] ![1, 1024] inb_S6x1024_S1x1024_1_0)) (iblk m c 3 t) (ix2 r q)
    = val_main_v64 (F := Ideal) (m ((c : Thread nD τ).loc main_arg0)) (m ((c : Thread nD τ).loc main_arg1)) (m ((c : Thread nD τ).loc main_arg2)) (m ((c : Thread nD τ).loc main_arg3)) (ix2 (tok t r) q) := by
  pointwise [k0_pay1, k0_pay5, val_main_v64, val_main_v62, val_main_v54, val_main_v52, val_main_v45, val_main_v39, val_main_v31, val_main_v38, val_main_v25, val_main_v24, val_main_v23, val_main_cst_5, val_main_v3, val_main_v2, val_main_v44, val_main_v51, val_main_v50, val_main_v49, val_main_v48, val_main_v46, val_main_v43, val_main_v42, val_main_v41, val_main_cst_10, val_main_v20, val_main_v19, val_main_cst_4, val_main_v18, val_main_v47, val_main_cst_11, val_main_cst_12, val_main_v53, val_main_v61, val_main_v60, val_main_v59, val_main_v57, val_main_v56, val_main_v55, val_main_cst_13, val_main_v58, val_main_cst_14, val_main_cst_15]
  simp only [centred, rstd, du_at, scale_at, part, Fin.sum_univ_one]
  exact (add_comm (G := EReal) _ _).trans (congrArg (· + _) ((normRow m c h (tok t r)).back _
    (fun q => (h.2.1 (ix2 (tok t r) q)).mul (IsReal.one.add (h.2.2 (ix2 (1 : Fin 6) q)))) q))

/-- A tile's products of gradient and normed row, summed down a column, -/
def prods (g x : FVec Ideal S512x1024 .f32) (q : Fin 1024) : EReal := ∑ k : Fin 512, g (ix2 k q) * k0_pay5 (F := Ideal) x (ix2 k q)

/-- and its gradients. -/
def sums (g : FVec Ideal S512x1024 .f32) (q : Fin 1024) : EReal := ∑ k : Fin 512, g (ix2 k q)

/-- One step of row 0. -/
theorem step0 (x g : FVec Ideal S512x1024 .f32) (v : FVec Ideal S1x1024 .f32) (q : Fin 1024) :
    k0_pay6 (F := Ideal) x g v (ix2 (0 : Fin 1) q) = v (ix2 (0 : Fin 1) q) + prods g x q := by
  pointwise [k0_pay6, prods]

/-- One step of row 1. -/
theorem step1 (g : FVec Ideal S512x1024 .f32) (v : FVec Ideal S1x1024 .f32) (q : Fin 1024) :
    k0_pay7 (F := Ideal) g v (ix2 (0 : Fin 1) q) = v (ix2 (0 : Fin 1) q) + sums g q := by
  pointwise [k0_pay7, sums]

/-- The zero fill. -/
theorem zero (y : S8x1024.Idx) : k0_pay2 (F := Ideal) y = 0 := by pointwise [k0_pay2]

/-- Row 0 after the last point: the gradient of the scale. -/
theorem row0 (c : Dev nD) (t : Fin cfg0.N) (ht : t.val % 8 = 7) (q : Fin 1024) :
    ((outsAt0 (F := Ideal) m c t.val t.isLt).2 (ix2 (0 : Fin 8) q) : EReal) = val_main_v73 (F := Ideal) (m ((c : Thread nD τ).loc main_arg0)) (m ((c : Thread nD τ).loc main_arg1)) (ix2 (0 : Fin 8) q) := by
  rw [Pipeline.eq_sum_fin_of_reset_step_apply_of_flush (fun n h (q : Fin 1024) => (outsAt0 (F := Ideal) m c n h).2 (ix2 (0 : Fin 8) q)) 8 (fun _ => 0)
    (fun (t : Fin cfg0.N) q => prods (iblk m c 1 t) (iblk m c 0 t) q)
    (fun t h q => by
      rw [outsAt0_A m c t h]
      frame_out
      rw [Cert.Rows.canon_miss (by simp), Cert.Rows.canon_hit (by rfl), step0, Cert.Rows.load_row (o := 0) (0 : Fin 8) (by rfl), Cert.Rows.canon_fill, zero])
    (fun t h q => by
      rw [outsAt0_B m c t h]
      frame_out
      rw [Cert.Rows.read_miss (by simp), Cert.Rows.read_hit (by rfl), step0, Cert.Rows.ld_row (o := 0) (0 : Fin 8) (by rfl)])
    t ht q, zero_add]
  have hN := Pipeline.run_point_lt_of_flush t ht
  pointwise [prods, k0_pay5, val_main_v73, val_main_v65, val_main_v40, val_main_v37, val_main_v36, val_main_v35, val_main_v22, val_main_v21, val_main_v31, val_main_cst_8, val_main_cst_9, val_main_v66, val_main_v34, val_main_v33, val_main_v32, val_main_cst_6, val_main_cst_7, val_main_v67, val_main_v63, val_main_cst_16, val_main_v68, val_main_v69, val_main_v70, val_main_v71, val_main_v72]
  simp only [centred, rstd, du_at]
  rw [Fin.sum_univ_one]
  refine Fin.sum_mul_add_congr fun s k hl => ?_
  have e : tok ⟨8 * (t.val / 8) + s.val, hN s⟩ k = ⟨s.val * 512 + k.val, hl⟩ := Fin.ext (by
    have ht8 : t.val < 8 := t.isLt
    simp only [tok]
    omega)
  rw [e]
  exact mul_comm (G := EReal) _ _

/-- Row 1 after the last point: the gradient of the shift. -/
theorem row1 (c : Dev nD) (t : Fin cfg0.N) (ht : t.val % 8 = 7) (q : Fin 1024) :
    ((outsAt0 (F := Ideal) m c t.val t.isLt).2 (ix2 (1 : Fin 8) q) : EReal) = val_main_v73 (F := Ideal) (m ((c : Thread nD τ).loc main_arg0)) (m ((c : Thread nD τ).loc main_arg1)) (ix2 (1 : Fin 8) q) := by
  rw [Pipeline.eq_sum_fin_of_reset_step_apply_of_flush (fun n h (q : Fin 1024) => (outsAt0 (F := Ideal) m c n h).2 (ix2 (1 : Fin 8) q)) 8 (fun _ => 0)
    (fun (t : Fin cfg0.N) q => sums (iblk m c 1 t) q)
    (fun t h q => by
      rw [outsAt0_A m c t h]
      frame_out
      rw [Cert.Rows.canon_hit (by rfl), step1, Cert.Rows.load_row (o := 1) (1 : Fin 8) (by rfl), Cert.Rows.canon_miss (by simp), Cert.Rows.canon_fill, zero])
    (fun t h q => by
      rw [outsAt0_B m c t h]
      frame_out
      rw [Cert.Rows.read_hit (by rfl), step1, Cert.Rows.ld_row (o := 1) (1 : Fin 8) (by rfl)])
    t ht q, zero_add]
  have hN := Pipeline.run_point_lt_of_flush t ht
  pointwise [sums, k0_pay5, val_main_v73, val_main_v65, val_main_v40, val_main_v37, val_main_v36, val_main_v35, val_main_v22, val_main_v21, val_main_v31, val_main_cst_8, val_main_cst_9, val_main_v66, val_main_v34, val_main_v33, val_main_v32, val_main_cst_6, val_main_cst_7, val_main_v67, val_main_v63, val_main_cst_16, val_main_v68, val_main_v69, val_main_v70, val_main_v71, val_main_v72]
  simp only [centred, rstd, du_at]
  rw [Fin.sum_univ_one]
  refine Fin.sum_mul_add_congr fun s k hl => ?_
  have e : tok ⟨8 * (t.val / 8) + s.val, hN s⟩ k = ⟨s.val * 512 + k.val, hl⟩ := Fin.ext (by
    have ht8 : t.val < 8 := t.isLt
    simp only [tok]
    omega)
  rw [e]

/-- The other rows stay zero. -/
theorem rest (c : Dev nD) (t : Fin cfg0.N) (ht : t.val % 8 = 7) (r : Fin 8) (hr : 2 ≤ r.val) (q : Fin 1024) :
    ((outsAt0 (F := Ideal) m c t.val t.isLt).2 (ix2 r q) : EReal) = val_main_v73 (F := Ideal) (m ((c : Thread nD τ).loc main_arg0)) (m ((c : Thread nD τ).loc main_arg1)) (ix2 r q) := by
  rw [Pipeline.eq_sum_fin_of_reset_step_apply_of_flush (fun n h (q : Fin 1024) => (outsAt0 (F := Ideal) m c n h).2 (ix2 r q)) 8 (fun _ => 0) (fun (_ : Fin cfg0.N) _ => 0)
    (fun t h q => by
      rw [outsAt0_A m c t h]
      frame_out
      rw [Cert.Rows.canon_miss (by omega), Cert.Rows.canon_miss (by omega), Cert.Rows.canon_fill, zero, add_zero])
    (fun t h q => by
      rw [outsAt0_B m c t h]
      frame_out
      rw [Cert.Rows.read_miss (by omega), Cert.Rows.read_miss (by omega), View.writes_nil, add_zero]
      exact congrFun (Memref.IsWhole.read_unread _ _) _)
    t ht q, zero_add, Finset.sum_const_zero]
  pointwise [val_main_v73, val_main_v65, val_main_v40, val_main_v37, val_main_v36, val_main_v35, val_main_v22, val_main_v9, val_main_v8, val_main_v7, val_main_v5, val_main_v4, val_main_cst, val_main_v6, val_main_cst_0, val_main_v21, val_main_v17, val_main_v16, val_main_v14, val_main_v12, val_main_v11, val_main_v10, val_main_cst_1, val_main_v13, val_main_cst_2, val_main_v15, val_main_cst_3, val_main_v31, val_main_cst_8, val_main_cst_9, val_main_v66, val_main_v34, val_main_v33, val_main_v32, val_main_cst_6, val_main_cst_7, val_main_v67, val_main_v63, val_main_cst_16, val_main_v68, val_main_v69, val_main_v70, val_main_v71, val_main_v72]
  rw [dif_neg (by omega), dif_neg (by omega)]
  simp

/-- The gradient of the rows. -/
theorem final4 (c : Dev nD) (he : Entries m c) : (dats m 0 c).arrAt 4 cfg0.N = val_main_v64 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have e : ((cfg0.win 4).blk t).view.emb y = ix2 (tok t (y 0)) (y 1) := by blk_ext [idx t] <;> rfl
  rw [e, eq_ix2 y]
  by_cases h : t.val % 8 = 0
  · rw [outsAt0_A m c t h]
    frame_out
    exact dx m c he t (y 0) (y 1)
  · rw [outsAt0_B m c t h]
    frame_out
    exact dx m c he t (y 0) (y 1)

/-- The sums: the gradient of the scale, that of the shift, zeros. -/
theorem final5 (c : Dev nD) (_ : Entries m c) : (dats m 0 c).arrAt 5 cfg0.N = val_main_v73 (F := Ideal) (m ((c : Thread nD τ).loc main_arg0)) (m ((c : Thread nD τ).loc main_arg1)) := by
  refine (dats m 0 c).arrAt_eq_of_covers 5 _ (by decide +kernel) fun t hf y => ?_
  have ht : t.val % 8 = 7 := (flush0_5 t).mp hf
  blk_simp
  rw [after0_5]
  frame_out
  have e : ((cfg0.win 5).blk t).view.emb y = ix2 (y 0) (y 1) := by blk_ext [idx t] <;> rfl
  rw [e, eq_ix2 y]
  rcases Nat.lt_or_ge (y 0).val 2 with hy | hy
  · rcases Nat.lt_or_ge (y 0).val 1 with h0 | h0
    · have h : y 0 = (0 : Fin 8) := Fin.ext (by show (y 0).val = 0; omega)
      rw [h]
      exact row0 m c t ht (y 1)
    · have h : y 0 = (1 : Fin 8) := Fin.ext (by show (y 0).val = 1; omega)
      rw [h]
      exact row1 m c t ht (y 1)
  · exact rest m c t ht (y 0) hy (y 1)

end Cert.ModulateBwd

end
-- ==== Proof.ModulateBwdClaim.lean ====
/- The backward of the modulated layer norm: the runs of the idealized kernel and of the reference, and the claim that they hold the same arrays. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import proofs.«01_k».proof.Proof.ModulateBwd
public import Idealize.ShloMosaic.Adequacy
public import Idealize.ShloMosaic.Init

@[expose] public section

noncomputable section

namespace Cert.ModulateBwd

open Idealize.ShloMosaic Idealize.SL.Sem Idealize.ShloMosaic.TcCoe

/-- The reference's frame. -/
theorem frameReference : Cert.quiescent_Reference10Ideal (hReference10Ideal := Cert.Reference10Ideal.Gen.facts) :=
  fun m g _ => (θ_run _ _ _).mono (fun _ h => ⟨fun c => (h c).2.2, sem_eq_zero_of_no_sems (by decide) _⟩)
    (Cert.Reference10Ideal.Value.run m g)

/-- The side conditions of the precondition. -/
theorem modulateBwdFacts : Cert.Pre_finite_modulate.Facts := by
  constructor <;> decide

instance : Subsingleton Cert.Pre_finite_modulate.S_.Idx := ⟨fun _ _ => funext fun i => i.elim0⟩

attribute [local instance] modulateBwdFacts in
open Cert.Pre_finite_modulate in
/-- The precondition says that the entries are real numbers. -/
theorem entries (m : (ℓ : Loc Cert.Kernel10Ideal.nD Cert.Kernel10Ideal.τ Cert.Kernel10Ideal.sig) → Buf (Elt Ideal) ℓ)
    (h : Cert.Pre_Kernel10Ideal m) (c : Dev Cert.Kernel10Ideal.nD) : Entries m c := by
  have e := congrFun (h c) (fun i => i.elim0)
  dsimp only [Cert.Pre_finite_modulate.fn] at e
  have e0 := e
  have e1 := (IntOp.andi_eq_one.1 e0).1
  have e2 := (IntOp.andi_eq_one.1 e1).1
  exact ⟨fun i => Finite.entries (m ((c.tc : Thread Cert.Kernel10Ideal.nD Cert.Kernel10Ideal.τ).loc Cert.Kernel10Ideal.main_arg0)) _ _ _ _ _ _ e2 i,
    fun i => Finite.entries (m ((c.tc : Thread Cert.Kernel10Ideal.nD Cert.Kernel10Ideal.τ).loc Cert.Kernel10Ideal.main_arg1)) _ _ _ _ _ _ (IntOp.andi_eq_one.1 e1).2 i,
    fun i => Finite.entries (m ((c.tc : Thread Cert.Kernel10Ideal.nD Cert.Kernel10Ideal.τ).loc Cert.Kernel10Ideal.main_arg2)) _ _ _ _ _ _ (IntOp.andi_eq_one.1 e0).2 i⟩

section
open Cert.Kernel10Ideal Cert.Kernel10Ideal.Gen Cert.Reference10Ideal.Read

/-- The idealized kernel's run: each result at the reference's function of the arguments, and the arguments unchanged. -/
theorem kernelRun (m : (ℓ : Loc nD τ sig) → Buf (Elt Ideal) ℓ) (ρ : Dev nD → PrngReg)
    (h0 : ∀ c : Dev nD, Entries m c) :
    θ_run (defs (F := Ideal)) (onTc (τ := τ) (main (F := Ideal))) ⟨m, fun _ => 0, ρ⟩ fun r => ∀ c : Dev nD,
      r.2.mem ((c.tc : Thread nD τ).loc main_v0_0) = val_main_v64 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = val_main_v73 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 4).trans (final4 m c (h0 c)),
      ((h c).1 5).trans (final5 m c (h0 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end

attribute [local instance] Cert.Kernel10Ideal.Gen.facts Cert.Reference10Ideal.Gen.facts modulateBwdFacts in
/-- The backward of the modulated layer norm: kernel and reference hold the same arrays. -/
theorem agree : Cert.algebraic_Kernel10Ideal_Reference10Ideal := by
  intro m g m' g' hpre hagree
  refine ⟨fun c => Cert.Reference10Ideal.Read.val_main_v64 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    fun c => Cert.Reference10Ideal.Read.val_main_v73 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ?_) (kernelRun m g (entries m hpre)), (θ_run _ _ _).mono (fun r h c => ?_) (Cert.Reference10Ideal.Value.run m' g')⟩
  · exact h c
  · obtain ⟨h0, h1, hargs⟩ := h c
    obtain ⟨e0, e1, e2, e3⟩ := hagree c
    refine ⟨h0.trans ?_, h1.trans ?_, hargs⟩
    · beta_reduce; rw [← e0, ← e1, ← e2, ← e3]; exact Cert.Reference10Ideal.Read.val_main_v64_eq _ _
    · beta_reduce; rw [← e0, ← e1]; exact Cert.Reference10Ideal.Read.val_main_v73_eq _ _

end Cert.ModulateBwd

end
-- ==== Proof.ConvBwdTile.lean ====
/- The convolution's backward: the gradient and the inputs on a tile with its neighbouring rows. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.ConvBwd

open Cert.Kernel11Ideal Cert.Kernel11Ideal.Gen Cert.Reference11Ideal.Read

variable (m : (ℓ : Loc nD τ sig) → Buf (Elt Ideal) ℓ)

/-- Every window's block index at every grid point. -/
theorem idx : ∀ t : Fin cfg0.N, win0_0.index t = ![t.val % 8, 6 + (t.val / 8)]
    ∧ win0_1.index t = ![t.val % 8 * 64 - 1, 6 + (t.val / 8)]
    ∧ win0_2.index t = ![t.val % 8, min (t.val / 8) 1]
    ∧ win0_3.index t = ![min ((t.val % 8 + 1) * 32) 255, min (t.val / 8) 1]
    ∧ win0_5.index t = ![min ((t.val % 8 + 1) * 32) 255, 0]
    ∧ win0_7.index t = ![min ((t.val % 8 + 1) * 32) 255, 0]
    ∧ win0_9.index t = ![min ((t.val % 8 + 1) * 32) 255, t.val / 8]
    ∧ win0_11.index t = ![6 + (t.val / 8), t.val % 8, 0]
    ∧ win0_4.index t = ![t.val % 8, 0]
    ∧ win0_6.index t = ![t.val % 8, 0]
    ∧ win0_8.index t = ![t.val % 8, t.val / 8]
    ∧ win0_10.index t = ![0, t.val / 8]
    ∧ win0_12.index t = ![0, t.val / 8]
    ∧ win0_13.index t = ![0, t.val / 8] :=
  (by decide +kernel : ∀ t : Fin grid0.N, _)

/-- Row `r` of the tile of point `t`, as a token. -/
def tok (t : Fin cfg0.N) (r : Fin 512) : Fin 4096 :=
  ⟨t.val % 8 * 512 + r.val, by have := r.isLt; omega⟩

/-- There are three groups of columns. -/
theorem group_lt (t : Fin cfg0.N) : t.val / 8 < 3 := by
  have h : t.val < 24 := t.isLt
  omega

/-- Column `q` of the tile of point `t`. -/
def col (t : Fin cfg0.N) (q : Fin 1024) : Fin 3072 :=
  ⟨t.val / 8 * 1024 + q.val, by have := group_lt t; have := q.isLt; omega⟩

/-- The tile of point `t` is the `t % 8`-th -/
theorem coord1 (t : Fin cfg0.N) : (grid0.coords t 1).val = t.val % 8 :=
  (by decide +kernel : ∀ t : Fin grid0.N, (grid0.coords t 1).val = t.val % 8) t

/-- of the `t / 8`-th group of columns. -/
theorem coord0 (t : Fin cfg0.N) : (grid0.coords t 0).val = t.val / 8 :=
  (by decide +kernel : ∀ t : Fin grid0.N, (grid0.coords t 0).val = t.val / 8) t

/-- The choice of the rows before the tile, -/
theorem select_first (j : ℕ) (hj : j < 8) (x y : EReal) :
    Scalar.select (Scalar.cmpi .sgt (BitVec.ofNat 32 j) 0#32) x y = if j = 0 then y else x := by
  interval_cases j <;> rfl

/-- of those after it, -/
theorem select_last (j : ℕ) (hj : j < 8) (x y : EReal) :
    Scalar.select (Scalar.cmpi .slt (BitVec.ofNat 32 j) 7#32) x y = if j = 7 then y else x := by
  interval_cases j <;> rfl

/-- and of the gradient's source. -/
theorem select_group (j : ℕ) (hj : j < 3) (x y : EReal) :
    Scalar.select (Scalar.cmpi .slt (BitVec.ofNat 32 j) 2#32) x y = if j = 2 then y else x := by
  interval_cases j <;> rfl

/-- Rows shifted up by `s` and cut to the tile. -/
theorem shifted_up (X : FVec Ideal S520x1024 .f32) (k : BitVec 32) (s : ℕ) (hk : k.toNat = 520 - s) (hs : 0 < s ∧ s ≤ 8) (r : Fin 512) (q : Fin 1024) :
    extractStridedSlice S512x1024 ![0, 0] (dynamicRotate 0 k none X rotates_S520x1024_d0) slices_S520x1024_o0_0_S512x1024 (ix2 r q)
      = X (ix2 (⟨r.val + s, by omega⟩ : Fin 520) q) := by
  pointwise []
  rw [hk]
  have e : (⟨(r.val + 520 - (520 - s) % 520) % 520, Nat.mod_lt _ (by decide)⟩ : Fin 520) = ⟨r.val + s, by omega⟩ :=
    Fin.ext (by show (r.val + 520 - (520 - s) % 520) % 520 = r.val + s; omega)
  exact congrArg (fun z => X (ix2 z q)) e

/-- Rows shifted down by `s` and cut to the tile. -/
theorem shifted_down (X : FVec Ideal S520x1024 .f32) (k : BitVec 32) (s : ℕ) (hk : k.toNat = s) (hs : s ≤ 8) (r : Fin 512) (q : Fin 1024) :
    extractStridedSlice S512x1024 ![8, 0] (dynamicRotate 0 k none X rotates_S520x1024_d0) slices_S520x1024_o8_0_S512x1024 (ix2 r q)
      = X (ix2 (⟨8 + r.val - s, by omega⟩ : Fin 520) q) := by
  pointwise []
  rw [hk]
  have e : (⟨(8 + r.val + 520 - s % 520) % 520, Nat.mod_lt _ (by decide)⟩ : Fin 520) = ⟨8 + r.val - s, by omega⟩ :=
    Fin.ext (by show (8 + r.val + 520 - s % 520) % 520 = 8 + r.val - s; omega)
  exact congrArg (fun z => X (ix2 z q)) e

/-- The gradient of the convolution's values on a tile and the eight rows after it. -/
def dpre (c : Dev nD) (t : Fin cfg0.N) : FVec Ideal S520x1024 .f32 :=
  (k0_pay3 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0)))

/-- The tile's inputs with the eight rows before it. -/
def ext (c : Dev nD) (t : Fin cfg0.N) : FVec Ideal S520x1024 .f32 :=
  (k0_pay8 (BitVec.ofNat 32 (grid0.coords t 1).val) (iblk m c 1 t) (iblk m c 0 t))

/-- Row `a` of the gradient, while there are tokens; zero after the last. -/
theorem dpre_at (c : Dev nD) (t : Fin cfg0.N) (a : Fin 520) (q : Fin 1024) :
    dpre m c t (ix2 a q) = if h : t.val % 8 * 512 + a.val < 4096 then val_main_v3 (F := Ideal) (m ((c : Thread nD τ).loc main_arg1)) (m ((c : Thread nD τ).loc main_arg2)) (m ((c : Thread nD τ).loc main_arg3)) (m ((c : Thread nD τ).loc main_arg4)) (ix2 (⟨t.val % 8 * 512 + a.val, h⟩ : Fin 4096) (col t q)) else 0 := by
  have hg := group_lt t
  have hm : t.val % 8 < 8 := Nat.mod_lt _ (by decide)
  rcases Nat.lt_or_ge a.val 512 with h | h
  · rw [dif_pos (by omega)]
    pointwise [dpre, k0_pay3, val_main_v3, val_main_v1, val_main_v0, val_main_v2]
    rw [dif_pos h, coord0, select_group _ hg]
    refine Ideal.mul_congr ?_ (by blk_point [iblk, V, idx t, col])
    by_cases g : t.val / 8 = 2
    · rw [if_pos g, dif_neg (show ¬(col t q).val < 2048 by simp only [col]; omega)]
      by_cases hq : q.val < 512
      · rw [dif_pos hq, dif_pos (show (col t q).val - 2048 < 512 by simp only [col]; omega)]
        blk_point [iblk, V, idx t, col]
      · rw [dif_neg hq, dif_neg (show ¬(col t q).val - 2048 < 512 by simp only [col]; omega)]
        blk_point [iblk, V, idx t, col]
    · rw [if_neg g, dif_pos (show (col t q).val < 2048 by simp only [col]; have := q.isLt; omega)]
      blk_point [iblk, V, idx t, col]
  · pointwise [dpre, k0_pay3, val_main_v3, val_main_v1, val_main_v0, val_main_v2]
    rw [dif_neg (by omega), coord0, coord1, select_group _ hg, select_last _ hm]
    by_cases h7 : t.val % 8 = 7
    · rw [if_pos h7, dif_neg (show ¬t.val % 8 * 512 + a.val < 4096 by omega)]
    rw [if_neg h7, dif_pos (show t.val % 8 * 512 + a.val < 4096 by omega)]
    refine Ideal.mul_congr ?_ (by blk_point [iblk, V, idx t, col])
    by_cases g : t.val / 8 = 2
    · rw [if_pos g, dif_neg (show ¬(col t q).val < 2048 by simp only [col]; omega)]
      by_cases hq : q.val < 512
      · rw [dif_pos hq, dif_pos (show (col t q).val - 2048 < 512 by simp only [col]; omega)]
        blk_point [iblk, V, idx t, col]
      · rw [dif_neg hq, dif_neg (show ¬(col t q).val - 2048 < 512 by simp only [col]; omega)]
        blk_point [iblk, V, idx t, col]
    · rw [if_neg g, dif_pos (show (col t q).val < 2048 by simp only [col]; have := q.isLt; omega)]
      blk_point [iblk, V, idx t, col]

/-- Row `a` of the inputs is row `a - 5` from the tile's start of the padded array. -/
theorem ext_at (c : Dev nD) (t : Fin cfg0.N) (a : Fin 520) (ha : 5 ≤ a.val) (q : Fin 1024) :
    ext m c t (ix2 a q) = val_main_v7 (F := Ideal) (m ((c : Thread nD τ).loc main_arg0)) (ix2 (⟨t.val % 8 * 512 + (a.val - 5), by omega⟩ : Fin 4099) (col t q)) := by
  rcases Nat.lt_or_ge a.val 8 with h | h
  · pointwise [ext, k0_pay8, val_main_v7, val_main_v6, val_main_cst_0, val_main_v4]
    rw [dif_pos h, coord1, select_first _ (Nat.mod_lt _ (by decide))]
    by_cases h0 : t.val % 8 = 0
    · rw [if_pos h0, dif_pos (by omega)]
    · rw [if_neg h0, dif_neg (by omega)]
      blk_point [iblk, V, idx t, col]
  · pointwise [ext, k0_pay8, val_main_v7, val_main_v6, val_main_cst_0, val_main_v4]
    rw [dif_neg (by omega), dif_neg (by omega)]
    blk_point [iblk, V, idx t, col]

/-- The filter's rows. -/
theorem w_at (c : Dev nD) (t : Fin cfg0.N) (k : Fin 4) (q : Fin 1024) :
    iblk (F := Ideal) m c 10 t (ix2 k q) = m ((c : Thread nD τ).loc main_arg5) (ix2 k (col t q)) := by
  blk_point [iblk, V, idx t, col]

end Cert.ConvBwd

end
-- ==== Proof.ConvBwdInput.lean ====
/- The convolution's backward: the gradient of its input. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Claim
public import proofs.«01_k».proof.Proof.ConvBwdTile

@[expose] public section

set_option maxRecDepth 16384

noncomputable section

open Idealize.ShloMosaic Idealize.ShloMosaic.TcCoe Idealize.SL.Sem
open Idealize.ShloMosaic.Pipeline (Dat)
open scoped BigOperators

namespace Cert.ConvBwd

open Cert.Kernel11Ideal Cert.Kernel11Ideal.Gen Cert.Reference11Ideal.Read

variable (m : (ℓ : Loc nD τ sig) → Buf (Elt Ideal) ℓ)

/-- The four taps of the gradient. -/
theorem taps_at (X : FVec Ideal S520x1024 .f32) (v : FVec Ideal S512x1024 .f32) (w0 w1 w2 : FVec Ideal S1x1024 .f32) (r : Fin 512) (q : Fin 1024) :
    k0_pay5 (F := Ideal) X v w0 517#32 w1 w2 (ix3 (0 : Fin 1) r q) = v (ix2 r q) + w0 (ix2 (0 : Fin 1) q) * X (ix2 (⟨r.val + 3, by omega⟩ : Fin 520) q)
      + w1 (ix2 (0 : Fin 1) q) * X (ix2 (⟨r.val + 2, by omega⟩ : Fin 520) q) + w2 (ix2 (0 : Fin 1) q) * X (ix2 (⟨r.val + 1, by omega⟩ : Fin 520) q) := by
  rw [← shifted_up X 517#32 3 rfl (by omega) r q, ← shifted_up X 518#32 2 rfl (by omega) r q, ← shifted_up X 519#32 1 rfl (by omega) r q]
  pointwise [k0_pay5]

/-- A term taken where there is one, -/
theorem gate {A B : Prop} [Decidable A] [Decidable B] {w : EReal} {f : A → EReal} {g : B → EReal} (hAB : A ↔ B) (h : ∀ a b, f a = g b) :
    (w * if h : A then f h else 0) = if h : B then w * g h else 0 := by
  by_cases a : A
  · rw [dif_pos a, dif_pos (hAB.mp a), h a (hAB.mp a)]
  · rw [dif_neg a, dif_neg (fun b => a (hAB.mpr b)), mul_zero]

/-- and the order of the terms. -/
theorem reverse_three (a x y z : EReal) : a + x + y + z = a + z + y + x := by
  rw [add_assoc, add_assoc, add_assoc, add_assoc, add_comm y z, ← add_assoc x z y, add_comm (x + z) y, add_comm x z, ← add_assoc y z x,
    add_comm y z, add_assoc z y x]

/-- The four taps, counted from the tile's start and from the token. -/
theorem four_taps (f : Fin 4096 → EReal) (w0 w1 w2 w3 : EReal) (b r : ℕ) (x : Fin 4096) (hx : x.val = b + r) (C : Prop) [Decidable C] (hC : C) :
    w3 * (if h : b + r < 4096 then f ⟨b + r, h⟩ else 0) + w0 * (if h : b + (r + 3) < 4096 then f ⟨b + (r + 3), h⟩ else 0)
        + w1 * (if h : b + (r + 2) < 4096 then f ⟨b + (r + 2), h⟩ else 0) + w2 * (if h : b + (r + 1) < 4096 then f ⟨b + (r + 1), h⟩ else 0)
      = (if h : C then w3 * f x else 0) + (if h : (2 ≤ 3 + x.val ∧ 3 + x.val - 2 < 4096) ∧ C then w2 * f ⟨3 + x.val - 2, h.1.2⟩ else 0)
        + (if h : (1 ≤ 3 + x.val ∧ 3 + x.val - 1 < 4096) ∧ C then w1 * f ⟨3 + x.val - 1, h.1.2⟩ else 0)
        + (if h : 3 + x.val < 4096 ∧ C then w0 * f ⟨3 + x.val, h.1⟩ else 0) := by
  have e0 : (⟨b + r, by omega⟩ : Fin 4096) = x := Fin.ext hx.symm
  rw [dif_pos (show b + r < 4096 by omega), e0, reverse_three, dif_pos hC]
  refine congrArg₂ (· + ·) (congrArg₂ (· + ·) (congrArg₂ (· + ·) rfl (gate ?_ fun _ _ => ?_)) (gate ?_ fun _ _ => ?_)) (gate ?_ fun _ _ => ?_)
  · rw [and_iff_left hC]
    omega
  · exact congrArg f (Fin.ext (by show b + (r + 1) = 3 + x.val - 2; omega))
  · rw [and_iff_left hC]
    omega
  · exact congrArg f (Fin.ext (by show b + (r + 2) = 3 + x.val - 1; omega))
  · rw [and_iff_left hC]
    omega
  · exact congrArg f (Fin.ext (by show b + (r + 3) = 3 + x.val; omega))

/-- The tap on the same row. -/
theorem tap3 (c : Dev nD) (t : Fin cfg0.N) (w : FVec Ideal S1x1024 .f32) (r : Fin 512) (q : Fin 1024) :
    k0_pay4 (F := Ideal) (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0)) w (ix2 r q) = w (ix2 (0 : Fin 1) q) * (k0_pay3 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0))) (ix2 (⟨r.val, by omega⟩ : Fin 520) q) := by
  pointwise [k0_pay4]

/-- Tap `k` of column `q` of a point's group -/
def wt (c : Dev nD) (t : Fin cfg0.N) (k : Fin 4) (q : Fin 1024) : EReal := m ((c : Thread nD τ).loc main_arg5) (ix2 k (col t q))

/-- and that column of the convolution's gradient. -/
def grad (c : Dev nD) (t : Fin cfg0.N) (q : Fin 1024) (x : Fin 4096) : EReal := val_main_v3 (F := Ideal) (m ((c : Thread nD τ).loc main_arg1)) (m ((c : Thread nD τ).loc main_arg2)) (m ((c : Thread nD τ).loc main_arg3)) (m ((c : Thread nD τ).loc main_arg4)) (ix2 x (col t q))

/-- Row 0 of the filter's block. -/
theorem wt0 (c : Dev nD) (t : Fin cfg0.N) (q : Fin 1024) : (View.ld (iblk m c 10 t) (Rect.unit ![0, 0] ![1, 1024] inb_S4x1024_S1x1024_0_0)) (ix2 (0 : Fin 1) q) = wt m c t 0 q := by
  have e := w_at m c t (0 : Fin 4) q
  pointwise []
  exact e

/-- Row 1 of the filter's block. -/
theorem wt1 (c : Dev nD) (t : Fin cfg0.N) (q : Fin 1024) : (View.ld (iblk m c 10 t) (Rect.unit ![1, 0] ![1, 1024] inb_S4x1024_S1x1024_1_0)) (ix2 (0 : Fin 1) q) = wt m c t 1 q := by
  have e := w_at m c t (1 : Fin 4) q
  pointwise []
  exact e

/-- Row 2 of the filter's block. -/
theorem wt2 (c : Dev nD) (t : Fin cfg0.N) (q : Fin 1024) : (View.ld (iblk m c 10 t) (Rect.unit ![2, 0] ![1, 1024] inb_S4x1024_S1x1024_2_0)) (ix2 (0 : Fin 1) q) = wt m c t 2 q := by
  have e := w_at m c t (2 : Fin 4) q
  pointwise []
  exact e

/-- Row 3 of the filter's block. -/
theorem wt3 (c : Dev nD) (t : Fin cfg0.N) (q : Fin 1024) : (View.ld (iblk m c 10 t) (Rect.unit ![3, 0] ![1, 1024] inb_S4x1024_S1x1024_3_0)) (ix2 (0 : Fin 1) q) = wt m c t 3 q := by
  have e := w_at m c t (3 : Fin 4) q
  pointwise []
  exact e

/-- The tile's four taps. -/
theorem dx_tile (c : Dev nD) (t : Fin cfg0.N) (r : Fin 512) (q : Fin 1024) :
    k0_pay5 (F := Ideal) (k0_pay3 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0))) (k0_pay4 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0)) (View.ld (iblk m c 10 t) (Rect.unit ![3, 0] ![1, 1024] inb_S4x1024_S1x1024_3_0))) (View.ld (iblk m c 10 t) (Rect.unit ![0, 0] ![1, 1024] inb_S4x1024_S1x1024_0_0)) 517#32 (View.ld (iblk m c 10 t) (Rect.unit ![1, 0] ![1, 1024] inb_S4x1024_S1x1024_1_0)) (View.ld (iblk m c 10 t) (Rect.unit ![2, 0] ![1, 1024] inb_S4x1024_S1x1024_2_0)) (ix3 (0 : Fin 1) r q)
      = wt m c t 3 q * (if h : t.val % 8 * 512 + r.val < 4096 then grad m c t q ⟨t.val % 8 * 512 + r.val, h⟩ else 0)
        + wt m c t 0 q * (if h : t.val % 8 * 512 + (r.val + 3) < 4096 then grad m c t q ⟨t.val % 8 * 512 + (r.val + 3), h⟩ else 0)
        + wt m c t 1 q * (if h : t.val % 8 * 512 + (r.val + 2) < 4096 then grad m c t q ⟨t.val % 8 * 512 + (r.val + 2), h⟩ else 0)
        + wt m c t 2 q * (if h : t.val % 8 * 512 + (r.val + 1) < 4096 then grad m c t q ⟨t.val % 8 * 512 + (r.val + 1), h⟩ else 0) :=
  (taps_at _ _ _ _ _ r q).trans (congrArg₂ (· + ·) (congrArg₂ (· + ·) (congrArg₂ (· + ·)
    ((tap3 m c t _ r q).trans (congrArg₂ (· * ·) (wt3 m c t q) (dpre_at m c t _ q)))
    (congrArg₂ (· * ·) (wt0 m c t q) (dpre_at m c t _ q)))
    (congrArg₂ (· * ·) (wt1 m c t q) (dpre_at m c t _ q)))
    (congrArg₂ (· * ·) (wt2 m c t q) (dpre_at m c t _ q)))

/-- The reference's four taps. -/
theorem dx_ref (c : Dev nD) (i : Fin 12) (hi : 6 ≤ i.val ∧ i.val < 9) (x : Fin 4096) (q : Fin 1024) (w : Fin 4 → EReal) (g : Fin 4096 → EReal)
    (hw : ∀ k, w k = m ((c : Thread nD τ).loc main_arg5) (ix2 k (⟨(i.val - 6) * 1024 + q.val, by omega⟩ : Fin 3072)))
    (hv : ∀ x, g x = val_main_v3 (F := Ideal) (m ((c : Thread nD τ).loc main_arg1)) (m ((c : Thread nD τ).loc main_arg2)) (m ((c : Thread nD τ).loc main_arg3)) (m ((c : Thread nD τ).loc main_arg4)) (ix2 x (⟨(i.val - 6) * 1024 + q.val, by omega⟩ : Fin 3072)))
    (Y : EReal) (hY : Y = (if h : (i.val - 6) * 1024 + q.val < 3072 then w 3 * g x else 0)
        + (if h : (2 ≤ 3 + x.val ∧ 3 + x.val - 2 < 4096) ∧ (i.val - 6) * 1024 + q.val < 3072 then w 2 * g ⟨3 + x.val - 2, h.1.2⟩ else 0)
        + (if h : (1 ≤ 3 + x.val ∧ 3 + x.val - 1 < 4096) ∧ (i.val - 6) * 1024 + q.val < 3072 then w 1 * g ⟨3 + x.val - 1, h.1.2⟩ else 0)
        + (if h : 3 + x.val < 4096 ∧ (i.val - 6) * 1024 + q.val < 3072 then w 0 * g ⟨3 + x.val, h.1⟩ else 0)) :
    (val_main_v95 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 i x q) : EReal) = Y := by
  pointwise [val_main_v95, val_main_v94, val_main_v89, val_main_v88, val_main_v91, val_main_v90, val_main_v87, val_main_v82, val_main_v71, val_main_v60, val_main_v50, val_main_v45, val_main_v44, val_main_v34, val_main_v32, val_main_v31, val_main_cst_7, val_main_v59, val_main_v54, val_main_v53, val_main_v27, val_main_v25, val_main_v24, val_main_cst_11, val_main_v70, val_main_v65, val_main_v64, val_main_v20, val_main_v18, val_main_v17, val_main_cst_15, val_main_v81, val_main_v76, val_main_v75, val_main_v12, val_main_v10, val_main_v9, val_main_cst_19, val_main_v93, val_main_v92]
  rw [dif_neg (show ¬i.val < 6 by omega), dif_pos (show i.val - 6 < 3 by omega)]
  simp only [hw, hv] at hY
  exact hY.symm

/-- The gradient of the convolution's input. -/
theorem dx (c : Dev nD) (t : Fin cfg0.N) (r : Fin 512) (q : Fin 1024) :
    k0_pay5 (F := Ideal) (k0_pay3 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0))) (k0_pay4 (grid0.coords t) (iblk m c 2 t) (iblk m c 4 t) (iblk m c 6 t)
    (View.ld (iblk m c 3 t) (Rect.unit ![0, 0] ![8, 1024] inb_S16x1024_S8x1024_0_0))
    (View.ld (iblk m c 5 t) (Rect.unit ![0, 0] ![8, 512] inb_S16x512_S8x512_0_0))
    (View.ld (iblk m c 7 t) (Rect.unit ![0, 0] ![8, 512] inb_S16x512_S8x512_0_0)) (iblk m c 8 t)
    (View.ld (iblk m c 9 t) (Rect.unit ![0, 0] ![8, 1024] inb_S16x1024_S8x1024_0_0)) (View.ld (iblk m c 10 t) (Rect.unit ![3, 0] ![1, 1024] inb_S4x1024_S1x1024_3_0))) (View.ld (iblk m c 10 t) (Rect.unit ![0, 0] ![1, 1024] inb_S4x1024_S1x1024_0_0)) 517#32 (View.ld (iblk m c 10 t) (Rect.unit ![1, 0] ![1, 1024] inb_S4x1024_S1x1024_1_0)) (View.ld (iblk m c 10 t) (Rect.unit ![2, 0] ![1, 1024] inb_S4x1024_S1x1024_2_0)) (ix3 (0 : Fin 1) r q)
      = val_main_v95 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (⟨6 + t.val / 8, by have := group_lt t; omega⟩ : Fin 12) (tok t r) q) :=
  (dx_ref m c ⟨6 + t.val / 8, by have := group_lt t; omega⟩ ⟨by show 6 ≤ 6 + t.val / 8; omega, by have := group_lt t; show 6 + t.val / 8 < 9; omega⟩ (tok t r) q (fun k => wt m c t k q) (grad m c t q)
    (fun k => by
      have e : col t q = ⟨(6 + t.val / 8 - 6) * 1024 + q.val, by have := group_lt t; omega⟩ := Fin.ext (by simp only [col]; omega)
      exact congrArg (fun j => m ((c : Thread nD τ).loc main_arg5) (ix2 k j)) e)
    (fun x => by
      have e : col t q = ⟨(6 + t.val / 8 - 6) * 1024 + q.val, by have := group_lt t; omega⟩ := Fin.ext (by simp only [col]; omega)
      exact congrArg (fun j => val_main_v3 (F := Ideal) (m ((c : Thread nD τ).loc main_arg1)) (m ((c : Thread nD τ).loc main_arg2)) (m ((c : Thread nD τ).loc main_arg3)) (m ((c : Thread nD τ).loc main_arg4)) (ix2 x j)) e)
    _ ((dx_tile m c t r q).trans (four_taps (grad m c t q) _ _ _ _ (t.val % 8 * 512) r.val (tok t r) rfl _ (by have := group_lt t; show (6 + t.val / 8 - 6) * 1024 + q.val < 3072; omega)))).symm

/-- The projection's gradient: the convolution's columns are written, the others stay. -/
theorem final11 (c : Dev nD) : (dats m 0 c).arrAt 11 cfg0.N = val_main_v95 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : (dats m 0 c).arrAt 11 cfg0.N = fun i => if 6 ≤ (i (0 : Fin 3)).val ∧ (i (0 : Fin 3)).val < 9 then val_main_v95 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i else V m c main_v0_0 i := by
    refine (dats m 0 c).arrAt_eq_of_coversWhere 11 _ (fun β => 6 ≤ β (0 : Fin 3) ∧ β (0 : Fin 3) < 9) (by decide +kernel) (fun t hf y => ?_)
      (fun j => by blk_simp [Pipeline.Window.cell_apply]; rw [Nat.div_one])
    blk_simp
    rw [after0_11]
    have e0 : y 0 = (0 : Fin 1) := Fin.ext (by show (y 0).val = 0; have : (y 0).val < 1 := (y 0).isLt; omega)
    have hg := group_lt t
    have e : (win0_11.blk t).view.emb y = ix3 (⟨6 + t.val / 8, by omega⟩ : Fin 12) (tok t (y 1)) (y 2) := by blk_ext [idx t] <;> first | rfl | (simp only [tok]; omega) | omega
    rw [e, eq_ix3 y, e0]
    by_cases h : t.val % 8 = 0
    · rw [outsAt0_A m c t h]
      frame_out
      exact dx m c t (y 1) (y 2)
    · rw [outsAt0_B m c t h]
      frame_out
      exact dx m c t (y 1) (y 2)
  rw [h]
  funext i
  by_cases hi : 6 ≤ (i (0 : Fin 3)).val ∧ (i (0 : Fin 3)).val < 9
  · exact if_pos hi
  refine (if_neg hi).trans ?_
  entry_read
  pointwise [val_main_v95, val_main_v94, val_main_v89, val_main_v88, val_main_v91, val_main_v90, val_main_v87, val_main_v82, val_main_v71, val_main_v60, val_main_v50, val_main_v45, val_main_v44, val_main_v34, val_main_v32, val_main_v31, val_main_cst_7, val_main_v59, val_main_v54, val_main_v53, val_main_v27, val_main_v25, val_main_v24, val_main_cst_11, val_main_v70, val_main_v65, val_main_v64, val_main_v20, val_main_v18, val_main_v17, val_main_cst_15, val_main_v81, val_main_v76, val_main_v75, val_main_v12, val_main_v10, val_main_v9, val_main_cst_19, val_main_v93, val_main_v92]
  by_cases h6 : (i (0 : Fin 3)).val < 6
  · rw [dif_pos h6]
  · rw [dif_neg h6, dif_neg (show ¬(i (0 : Fin 3)).val - 6 < 3 by omega)]
    refine congrArg (m ((c : Thread nD τ).loc main_arg6)) ((eq_ix3 i).trans ?_)
    exact congrArg (fun z : Fin 12 => ix3 z (i 1) (i 2)) (Fin.ext (by show (i (0 : Fin 3)).val = 9 + ((i (0 : Fin 3)).val - 6 - 3); omega))

end Cert.ConvBwd

end
-- ==== Proof.ConvBwd.lean ====
/- The convolution's backward: the gradients of the filter and the bias. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Claim
public import proofs.«01_k».proof.Proof.ConvBwdInput

@[expose] public section

set_option maxRecDepth 16384

noncomputable section

open Idealize.ShloMosaic Idealize.ShloMosaic.TcCoe Idealize.SL.Sem
open Idealize.ShloMosaic.Pipeline (Dat)
open scoped BigOperators

namespace Cert.ConvBwd

open Cert.Kernel11Ideal Cert.Kernel11Ideal.Gen Cert.Reference11Ideal.Read

variable (m : (ℓ : Loc nD τ sig) → Buf (Elt Ideal) ℓ)

/-- Products of gradient and input, shifted by `s`, summed down a column of a tile, -/
def prods (X Y : FVec Ideal S520x1024 .f32) (s : ℕ) (q : Fin 1024) : EReal :=
  ∑ r : Fin 512, X (ix2 (⟨r.val, by omega⟩ : Fin 520) q) * Y (ix2 (⟨8 + r.val - s, by omega⟩ : Fin 520) q)

/-- and gradients. -/
def sums (X : FVec Ideal S520x1024 .f32) (q : Fin 1024) : EReal := ∑ r : Fin 512, X (ix2 (⟨r.val, by omega⟩ : Fin 520) q)

/-- One step of row 3. -/
theorem step3 (X Y : FVec Ideal S520x1024 .f32) (v : FVec Ideal S1x1024 .f32) (q : Fin 1024) :
    k0_pay10 (F := Ideal) (k0_pay6 X) Y (k0_pay9 v) (ix2 (0 : Fin 1) q) = v (ix2 (0 : Fin 1) q) + prods X Y 0 q := by
  pointwise [k0_pay10, k0_pay6, k0_pay9, prods]

/-- One step of row 0. -/
theorem step0 (X Y : FVec Ideal S520x1024 .f32) (v : FVec Ideal S1x1024 .f32) (q : Fin 1024) :
    k0_pay11 (F := Ideal) (k0_pay6 X) Y v (ix2 (0 : Fin 1) q) = v (ix2 (0 : Fin 1) q) + prods X Y 3 q := by
  unfold prods
  simp_rw [← shifted_down Y 3#32 3 rfl (by omega)]
  pointwise [k0_pay11, k0_pay6]

/-- One step of row 1. -/
theorem step1 (X Y : FVec Ideal S520x1024 .f32) (v : FVec Ideal S1x1024 .f32) (q : Fin 1024) :
    k0_pay12 (F := Ideal) (k0_pay6 X) Y v (ix2 (0 : Fin 1) q) = v (ix2 (0 : Fin 1) q) + prods X Y 2 q := by
  unfold prods
  simp_rw [← shifted_down Y 2#32 2 rfl (by omega)]
  pointwise [k0_pay12, k0_pay6]

/-- One step of row 2. -/
theorem step2 (X Y : FVec Ideal S520x1024 .f32) (v : FVec Ideal S1x1024 .f32) (q : Fin 1024) :
    k0_pay13 (F := Ideal) (k0_pay6 X) Y v (ix2 (0 : Fin 1) q) = v (ix2 (0 : Fin 1) q) + prods X Y 1 q := by
  unfold prods
  simp_rw [← shifted_down Y 1#32 1 rfl (by omega)]
  pointwise [k0_pay13, k0_pay6]

/-- One step of the bias's gradient. -/
theorem step_bias (X : FVec Ideal S520x1024 .f32) (v : FVec Ideal S1x1024 .f32) (q : Fin 1024) :
    k0_pay7 (F := Ideal) X v (ix2 (0 : Fin 1) q) = v (ix2 (0 : Fin 1) q) + sums X q := by
  pointwise [k0_pay7, k0_pay6, sums]

/-- The filter's gradient starts at zero, -/
theorem zero8 (y : S8x1024.Idx) : k0_pay1 (F := Ideal) y = 0 := by pointwise [k0_pay1]

/-- and the bias's. -/
theorem zero1 (y : S1x1024.Idx) : k0_pay2 (F := Ideal) y = 0 := by pointwise [k0_pay2]

/-- A tile's rows of the gradient -/
theorem dpre_row (c : Dev nD) (t : Fin cfg0.N) (r : Fin 512) (q : Fin 1024) :
    dpre m c t (ix2 (⟨r.val, by omega⟩ : Fin 520) q) = val_main_v3 (F := Ideal) (m ((c : Thread nD τ).loc main_arg1)) (m ((c : Thread nD τ).loc main_arg2)) (m ((c : Thread nD τ).loc main_arg3)) (m ((c : Thread nD τ).loc main_arg4)) (ix2 (tok t r) (col t q)) := by
  rw [dpre_at, dif_pos (show t.val % 8 * 512 + r.val < 4096 by omega)]
  rfl

/-- and of the inputs. -/
theorem ext_row (c : Dev nD) (t : Fin cfg0.N) (s : ℕ) (hs : s ≤ 3) (r : Fin 512) (q : Fin 1024) :
    ext m c t (ix2 (⟨8 + r.val - s, by omega⟩ : Fin 520) q) = val_main_v7 (F := Ideal) (m ((c : Thread nD τ).loc main_arg0)) (ix2 (⟨3 - s + (tok t r).val, by have := (tok t r).isLt; omega⟩ : Fin 4099) (col t q)) := by
  rw [ext_at m c t _ (show 5 ≤ 8 + r.val - s by omega)]
  have e : (⟨t.val % 8 * 512 + (8 + r.val - s - 5), by omega⟩ : Fin 4099) = ⟨3 - s + (tok t r).val, by have := (tok t r).isLt; omega⟩ := Fin.ext (by simp only [tok]; omega)
  exact congrArg (fun z => val_main_v7 (F := Ideal) (m ((c : Thread nD τ).loc main_arg0)) (ix2 z (col t q))) e

/-- A column's products over a run of tiles, shifted by `s`, are those over all tokens. -/
theorem prods_run (c : Dev nD) (t : Fin cfg0.N) (ht : t.val % 8 = 7) (hN : ∀ s : Fin 8, 8 * (t.val / 8) + s.val < cfg0.N) (s : ℕ) (hs : s ≤ 3) (q : Fin 1024) :
    ∑ j : Fin 8, prods (dpre m c ⟨8 * (t.val / 8) + j.val, hN j⟩) (ext m c ⟨8 * (t.val / 8) + j.val, hN j⟩) s q
      = ∑ k : Fin 4096, (val_main_v3 (F := Ideal) (m ((c : Thread nD τ).loc main_arg1)) (m ((c : Thread nD τ).loc main_arg2)) (m ((c : Thread nD τ).loc main_arg3)) (m ((c : Thread nD τ).loc main_arg4)) (ix2 k (col t q)) : EReal) * val_main_v7 (F := Ideal) (m ((c : Thread nD τ).loc main_arg0)) (ix2 (⟨3 - s + k.val, by omega⟩ : Fin 4099) (col t q)) := by
  unfold prods
  refine Fin.sum_mul_add_congr fun j k hl => ?_
  have e : tok ⟨8 * (t.val / 8) + j.val, hN j⟩ k = ⟨j.val * 512 + k.val, hl⟩ := Fin.ext (by simp only [tok]; omega)
  have e' : col ⟨8 * (t.val / 8) + j.val, hN j⟩ q = col t q := Fin.ext (by simp only [col]; omega)
  rw [dpre_row, ext_row m c _ s hs, e']
  simp only [e]

/-- Likewise the gradients. -/
theorem sums_run (c : Dev nD) (t : Fin cfg0.N) (ht : t.val % 8 = 7) (hN : ∀ s : Fin 8, 8 * (t.val / 8) + s.val < cfg0.N) (q : Fin 1024) :
    ∑ j : Fin 8, sums (dpre m c ⟨8 * (t.val / 8) + j.val, hN j⟩) q = ∑ k : Fin 4096, (val_main_v3 (F := Ideal) (m ((c : Thread nD τ).loc main_arg1)) (m ((c : Thread nD τ).loc main_arg2)) (m ((c : Thread nD τ).loc main_arg3)) (m ((c : Thread nD τ).loc main_arg4)) (ix2 k (col t q)) : EReal) := by
  unfold sums
  refine Fin.sum_mul_add_congr fun j k hl => ?_
  have e : tok ⟨8 * (t.val / 8) + j.val, hN j⟩ k = ⟨j.val * 512 + k.val, hl⟩ := Fin.ext (by simp only [tok]; omega)
  have e' : col ⟨8 * (t.val / 8) + j.val, hN j⟩ q = col t q := Fin.ext (by simp only [col]; omega)
  rw [dpre_row, e', e]

/-- The reference's array of filter gradients, row by row. -/
theorem dw_at (c : Dev nD) (k : Fin 8) (j : Fin 3072) :
    (val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 k j) : EReal) = if h : k.val < 4 then ∑ x : Fin 4096, (val_main_v3 (F := Ideal) (m ((c : Thread nD τ).loc main_arg1)) (m ((c : Thread nD τ).loc main_arg2)) (m ((c : Thread nD τ).loc main_arg3)) (m ((c : Thread nD τ).loc main_arg4)) (ix2 x j) : EReal) * val_main_v7 (F := Ideal) (m ((c : Thread nD τ).loc main_arg0)) (ix2 (⟨k.val + x.val, by omega⟩ : Fin 4099) j) else 0 := by
  pointwise [val_main_v97, val_main_v85, val_main_v74, val_main_v63, val_main_v52, val_main_v51, val_main_v49, val_main_v48, val_main_v47, val_main_v46, val_main_v33, val_main_cst_5, val_main_cst_6, val_main_cst_8, val_main_v62, val_main_v61, val_main_v58, val_main_v57, val_main_v56, val_main_v55, val_main_v26, val_main_cst_9, val_main_cst_10, val_main_cst_12, val_main_v73, val_main_v72, val_main_v69, val_main_v68, val_main_v67, val_main_v66, val_main_v19, val_main_cst_13, val_main_cst_14, val_main_cst_16, val_main_v84, val_main_v83, val_main_v80, val_main_v79, val_main_v78, val_main_v77, val_main_v11, val_main_cst_17, val_main_cst_18, val_main_cst_20, val_main_v96, val_main_cst_21]
  obtain ⟨k, hk⟩ := k
  interval_cases k <;> simp [Fin.sum_univ_one]

/-- Row 0 of the filter's gradient. -/
theorem row0 (c : Dev nD) (t : Fin cfg0.N) (ht : t.val % 8 = 7) (q : Fin 1024) :
    ((outsAt0 (F := Ideal) m c t.val t.isLt).2.1 (ix2 (0 : Fin 8) q) : EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (0 : Fin 8) (col t q)) := by
  rw [Pipeline.eq_sum_fin_of_reset_step_apply_of_flush (fun n h (q : Fin 1024) => (outsAt0 (F := Ideal) m c n h).2.1 (ix2 (0 : Fin 8) q)) 8 (fun _ => 0)
    (fun (t : Fin cfg0.N) q => prods (dpre m c t) (ext m c t) 3 q)
    (fun t h q => by
      rw [outsAt0_A m c t h]
      frame_out
      rw [Cert.Rows.canon_miss (by simp), Cert.Rows.canon_miss (by simp), Cert.Rows.canon_hit (by rfl)]
      refine (step0 (dpre m c t) (ext m c t) _ q).trans ?_
      rw [Cert.Rows.load_row (o := 0) (0 : Fin 8) (by rfl), Cert.Rows.canon_miss (by simp), Cert.Rows.canon_fill, zero8])
    (fun t h q => by
      rw [outsAt0_B m c t h]
      frame_out
      rw [Cert.Rows.read_miss (by simp), Cert.Rows.read_miss (by simp), Cert.Rows.read_hit (by rfl)]
      refine (step0 (dpre m c t) (ext m c t) _ q).trans ?_
      rw [Cert.Rows.ld_row (o := 0) (0 : Fin 8) (by rfl)])
    t ht q, zero_add, prods_run m c t ht (Pipeline.run_point_lt_of_flush t ht) 3 (by omega) q, dw_at]
  rfl

/-- Row 1 of the filter's gradient. -/
theorem row1 (c : Dev nD) (t : Fin cfg0.N) (ht : t.val % 8 = 7) (q : Fin 1024) :
    ((outsAt0 (F := Ideal) m c t.val t.isLt).2.1 (ix2 (1 : Fin 8) q) : EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (1 : Fin 8) (col t q)) := by
  rw [Pipeline.eq_sum_fin_of_reset_step_apply_of_flush (fun n h (q : Fin 1024) => (outsAt0 (F := Ideal) m c n h).2.1 (ix2 (1 : Fin 8) q)) 8 (fun _ => 0)
    (fun (t : Fin cfg0.N) q => prods (dpre m c t) (ext m c t) 2 q)
    (fun t h q => by
      rw [outsAt0_A m c t h]
      frame_out
      rw [Cert.Rows.canon_miss (by simp), Cert.Rows.canon_hit (by rfl)]
      refine (step1 (dpre m c t) (ext m c t) _ q).trans ?_
      rw [Cert.Rows.load_row (o := 1) (1 : Fin 8) (by rfl), Cert.Rows.canon_miss (by simp), Cert.Rows.canon_miss (by simp), Cert.Rows.canon_fill, zero8])
    (fun t h q => by
      rw [outsAt0_B m c t h]
      frame_out
      rw [Cert.Rows.read_miss (by simp), Cert.Rows.read_hit (by rfl)]
      refine (step1 (dpre m c t) (ext m c t) _ q).trans ?_
      rw [Cert.Rows.ld_row (o := 1) (1 : Fin 8) (by rfl)])
    t ht q, zero_add, prods_run m c t ht (Pipeline.run_point_lt_of_flush t ht) 2 (by omega) q, dw_at]
  rfl

/-- Row 2 of the filter's gradient. -/
theorem row2 (c : Dev nD) (t : Fin cfg0.N) (ht : t.val % 8 = 7) (q : Fin 1024) :
    ((outsAt0 (F := Ideal) m c t.val t.isLt).2.1 (ix2 (2 : Fin 8) q) : EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (2 : Fin 8) (col t q)) := by
  rw [Pipeline.eq_sum_fin_of_reset_step_apply_of_flush (fun n h (q : Fin 1024) => (outsAt0 (F := Ideal) m c n h).2.1 (ix2 (2 : Fin 8) q)) 8 (fun _ => 0)
    (fun (t : Fin cfg0.N) q => prods (dpre m c t) (ext m c t) 1 q)
    (fun t h q => by
      rw [outsAt0_A m c t h]
      frame_out
      rw [Cert.Rows.canon_hit (by rfl)]
      refine (step2 (dpre m c t) (ext m c t) _ q).trans ?_
      rw [Cert.Rows.load_row (o := 2) (2 : Fin 8) (by rfl), Cert.Rows.canon_miss (by simp), Cert.Rows.canon_miss (by simp), Cert.Rows.canon_miss (by simp), Cert.Rows.canon_fill, zero8])
    (fun t h q => by
      rw [outsAt0_B m c t h]
      frame_out
      rw [Cert.Rows.read_hit (by rfl)]
      refine (step2 (dpre m c t) (ext m c t) _ q).trans ?_
      rw [Cert.Rows.ld_row (o := 2) (2 : Fin 8) (by rfl)])
    t ht q, zero_add, prods_run m c t ht (Pipeline.run_point_lt_of_flush t ht) 1 (by omega) q, dw_at]
  rfl

/-- Row 3 of the filter's gradient. -/
theorem row3 (c : Dev nD) (t : Fin cfg0.N) (ht : t.val % 8 = 7) (q : Fin 1024) :
    ((outsAt0 (F := Ideal) m c t.val t.isLt).2.1 (ix2 (3 : Fin 8) q) : EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (3 : Fin 8) (col t q)) := by
  rw [Pipeline.eq_sum_fin_of_reset_step_apply_of_flush (fun n h (q : Fin 1024) => (outsAt0 (F := Ideal) m c n h).2.1 (ix2 (3 : Fin 8) q)) 8 (fun _ => 0)
    (fun (t : Fin cfg0.N) q => prods (dpre m c t) (ext m c t) 0 q)
    (fun t h q => by
      rw [outsAt0_A m c t h]
      frame_out
      rw [Cert.Rows.canon_miss (by simp), Cert.Rows.canon_miss (by simp), Cert.Rows.canon_miss (by simp), Cert.Rows.canon_hit (by rfl)]
      refine (step3 (dpre m c t) (ext m c t) _ q).trans ?_
      rw [Cert.Rows.load_row (o := 3) (3 : Fin 8) (by rfl), Cert.Rows.canon_fill, zero8])
    (fun t h q => by
      rw [outsAt0_B m c t h]
      frame_out
      rw [Cert.Rows.read_miss (by simp), Cert.Rows.read_miss (by simp), Cert.Rows.read_miss (by simp), Cert.Rows.read_hit (by rfl)]
      refine (step3 (dpre m c t) (ext m c t) _ q).trans ?_
      rw [Cert.Rows.ld_row (o := 3) (3 : Fin 8) (by rfl)])
    t ht q, zero_add, prods_run m c t ht (Pipeline.run_point_lt_of_flush t ht) 0 (by omega) q, dw_at]
  rfl

/-- The other rows stay zero. -/
theorem rest (c : Dev nD) (t : Fin cfg0.N) (ht : t.val % 8 = 7) (r : Fin 8) (hr : 4 ≤ r.val) (q : Fin 1024) :
    ((outsAt0 (F := Ideal) m c t.val t.isLt).2.1 (ix2 r q) : EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r (col t q)) := by
  rw [Pipeline.eq_sum_fin_of_reset_step_apply_of_flush (fun n h (q : Fin 1024) => (outsAt0 (F := Ideal) m c n h).2.1 (ix2 r q)) 8 (fun _ => 0) (fun (_ : Fin cfg0.N) _ => 0)
    (fun t h q => by
      rw [outsAt0_A m c t h]
      frame_out
      rw [Cert.Rows.canon_miss (by omega), Cert.Rows.canon_miss (by omega), Cert.Rows.canon_miss (by omega), Cert.Rows.canon_miss (by omega), Cert.Rows.canon_fill, zero8, add_zero])
    (fun t h q => by
      rw [outsAt0_B m c t h]
      frame_out
      rw [Cert.Rows.read_miss (by omega), Cert.Rows.read_miss (by omega), Cert.Rows.read_miss (by omega), Cert.Rows.read_miss (by omega), View.writes_nil, add_zero]
      exact congrFun (Memref.IsWhole.read_unread _ _) _)
    t ht q, zero_add, Finset.sum_const_zero, dw_at, dif_neg (show ¬r.val < 4 by omega)]

/-- The bias's gradient. -/
theorem bias (c : Dev nD) (t : Fin cfg0.N) (ht : t.val % 8 = 7) (q : Fin 1024) :
    ((outsAt0 (F := Ideal) m c t.val t.isLt).2.2 (ix2 (0 : Fin 1) q) : EReal) = val_main_v98 (F := Ideal) (m ((c : Thread nD τ).loc main_arg1)) (m ((c : Thread nD τ).loc main_arg2)) (m ((c : Thread nD τ).loc main_arg3)) (m ((c : Thread nD τ).loc main_arg4)) (ix2 (0 : Fin 1) (col t q)) := by
  rw [Pipeline.eq_sum_fin_of_reset_step_apply_of_flush (fun n h (q : Fin 1024) => (outsAt0 (F := Ideal) m c n h).2.2 (ix2 (0 : Fin 1) q)) 8 (fun _ => 0)
    (fun (t : Fin cfg0.N) q => sums (dpre m c t) q)
    (fun t h q => by
      rw [outsAt0_A m c t h]
      frame_out
      exact (step_bias (dpre m c t) _ q).trans (congrArg (· + sums (dpre m c t) q) (zero1 _)))
    (fun t h q => by
      rw [outsAt0_B m c t h]
      frame_out
      exact step_bias (dpre m c t) _ q)
    t ht q, zero_add, sums_run m c t ht (Pipeline.run_point_lt_of_flush t ht) q]
  pointwise [val_main_v98, val_main_v43, val_main_v42, val_main_v41, val_main_cst_3, val_main_cst_4]
  rw [Fin.sum_univ_one]

/-- The filter's gradient. -/
theorem final12 (c : Dev nD) : (dats m 0 c).arrAt 12 cfg0.N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  have ht : t.val % 8 = 7 := (flush0_12 t).mp hf
  blk_simp
  rw [after0_12]
  frame_out
  have e : ((cfg0.win 12).blk t).view.emb y = ix2 (y 0) (col t (y 1)) := by blk_ext [idx t] <;> rfl
  rw [e, eq_ix2 y]
  rcases Nat.lt_or_ge (y 0).val 4 with hy | hy
  · rcases (by omega : (y 0).val = 0 ∨ (y 0).val = 1 ∨ (y 0).val = 2 ∨ (y 0).val = 3) with h | h | h | h
    · rw [show y 0 = (0 : Fin 8) from Fin.ext h]
      exact row0 m c t ht (y 1)
    · rw [show y 0 = (1 : Fin 8) from Fin.ext h]
      exact row1 m c t ht (y 1)
    · rw [show y 0 = (2 : Fin 8) from Fin.ext h]
      exact row2 m c t ht (y 1)
    · rw [show y 0 = (3 : Fin 8) from Fin.ext h]
      exact row3 m c t ht (y 1)
  · exact rest m c t ht (y 0) hy (y 1)

/-- The bias's gradient, over the columns. -/
theorem final13 (c : Dev nD) : (dats m 0 c).arrAt 13 cfg0.N = val_main_v98 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  have ht : t.val % 8 = 7 := (flush0_13 t).mp hf
  blk_simp
  rw [after0_13]
  frame_out
  have e : ((cfg0.win 13).blk t).view.emb y = ix2 (0 : Fin 1) (col t (y 1)) := by blk_ext [idx t] <;> first | rfl | omega
  have e0 : y 0 = (0 : Fin 1) := Fin.ext (by show (y 0).val = 0; have : (y 0).val < 1 := (y 0).isLt; omega)
  rw [e, eq_ix2 y, e0]
  exact bias m c t ht (y 1)

end Cert.ConvBwd

end
-- ==== Proof.ConvBwdClaim.lean ====
/- The convolution's backward: the runs of the idealized kernel and of the reference, and the claim that they hold the same arrays. -/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import proofs.«01_k».proof.Proof.ConvBwd
public import Idealize.ShloMosaic.Adequacy
public import Idealize.ShloMosaic.Init

@[expose] public section

noncomputable section

namespace Cert.ConvBwd

open Idealize.ShloMosaic Idealize.SL.Sem Idealize.ShloMosaic.TcCoe

/-- The reference's frame. -/
theorem frameReference : Cert.quiescent_Reference11Ideal (hReference11Ideal := Cert.Reference11Ideal.Gen.facts) :=
  fun m g _ => (θ_run _ _ _).mono (fun _ h => ⟨fun c => (h c).2.2.2, sem_eq_zero_of_no_sems (by decide) _⟩)
    (Cert.Reference11Ideal.Value.run m g)

section
open Cert.Kernel11Ideal Cert.Kernel11Ideal.Gen Cert.Reference11Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = val_main_v95 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = val_main_v98 (F := Ideal) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 11).trans (final11 m c),
      ((h c).1 12).trans (final12 m c),
      ((h c).1 13).trans (final13 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).1 6).trans (((dats m 0 c).arrAt_in 6 rfl _).trans ((A_eq m c 6).trans (V_main_arg3 m c))),
      ((h c).1 8).trans (((dats m 0 c).arrAt_in 8 rfl _).trans ((A_eq m c 8).trans (V_main_arg4 m c))),
      ((h c).1 10).trans (((dats m 0 c).arrAt_in 10 rfl _).trans ((A_eq m c 10).trans (V_main_arg5 m c))),
      ((h c).2 main_arg6 (Pipeline.mem_restRefs_of main_arg6 (by decide) (by decide))).trans (V_main_arg6 m c)⟩) (run_main m ρ)

end

attribute [local instance] Cert.Kernel11Ideal.Gen.facts Cert.Reference11Ideal.Gen.facts in
/-- The convolution's backward: kernel and reference hold the same arrays. -/
theorem agree : Cert.algebraic_Kernel11Ideal_Reference11Ideal := by
  intro m g m' g' _ hagree
  refine ⟨fun c => Cert.Reference11Ideal.Read.val_main_v95 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)),
    fun c => Cert.Reference11Ideal.Read.val_main_v97 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => Cert.Reference11Ideal.Read.val_main_v98 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    (θ_run _ _ _).mono (fun r h c => ?_) (kernelRun m g), (θ_run _ _ _).mono (fun r h c => ?_) (Cert.Reference11Ideal.Value.run m' g')⟩
  · exact h c
  · obtain ⟨h0, h1, h2, hargs⟩ := h c
    obtain ⟨e0, e1, e2, e3, e4, e5, e6⟩ := hagree c
    refine ⟨h0.trans ?_, h1.trans ?_, h2.trans ?_, hargs⟩
    · beta_reduce; rw [← e1, ← e2, ← e3, ← e4, ← e5, ← e6]; exact Cert.Reference11Ideal.Read.val_main_v95_eq _ _
    · beta_reduce; rw [← e0, ← e1, ← e2, ← e3, ← e4]; exact Cert.Reference11Ideal.Read.val_main_v97_eq _ _
    · beta_reduce; rw [← e1, ← e2, ← e3, ← e4]; exact Cert.Reference11Ideal.Read.val_main_v98_eq _ _ _ _

end Cert.ConvBwd

end
-- ==== Proof.ConvFwd.lean ====
/- The forward convolution. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Pipeline.ReadBack
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)
open Cert.Finite (IsReal)
open scoped BigOperators

namespace Cert.ConvFwd

open Cert.Kernel12Ideal Cert.Kernel12Ideal.Gen Cert.Reference12Ideal.Read

variable (m : (ℓ : Loc nD τ sig) → Buf (Elt Ideal) ℓ)

/-- Every window's block index at every grid point. -/
theorem idx : ∀ t : Fin cfg0.N, win0_0.index t = ![t.val % 8, 6 + (t.val / 8)]
    ∧ win0_1.index t = ![t.val % 8 * 64 - 1, 6 + (t.val / 8)]
    ∧ win0_2.index t = ![0, t.val / 8]
    ∧ win0_3.index t = ![0, t.val / 8]
    ∧ win0_4.index t = ![t.val % 8, t.val / 8]
    ∧ win0_5.index t = ![t.val % 8, t.val / 8] :=
  (by decide +kernel : ∀ t : Fin grid0.N, _)

/-- Row `r` of the tile of point `t`, as a token. -/
def tok (t : Fin cfg0.N) (r : Fin 512) : Fin 4096 :=
  ⟨t.val % 8 * 512 + r.val, by have := r.isLt; omega⟩

/-- Column `q` of the tile of point `t`. -/
def col (t : Fin cfg0.N) (q : Fin 1024) : Fin 3072 :=
  ⟨t.val / 8 * 1024 + q.val, by have := t.isLt; have h : t.val < 24 := this; have := q.isLt; omega⟩

/-- The tile of point `t` is the `t % 8`-th of its columns. -/
theorem coord (t : Fin cfg0.N) : (grid0.coords t 1).val = t.val % 8 :=
  (by decide +kernel : ∀ t : Fin grid0.N, (grid0.coords t 1).val = t.val % 8) t

/-- A tile with the eight rows before it, which are zero at the first tile. -/
def ext (i : grid0.Coords) (halo : FVec Ideal S8x1024 .f32) (x : FVec Ideal S512x1024 .f32) : FVec Ideal S520x1024 .f32 :=
  concatenate S520x1024 0 [⟨S8x1024, Scalar.select (Scalar.cmpi .sgt (BitVec.ofNat 32 (i 1).val) 0#32) halo
    (broadcast S8x1024 (Scalar.ofBits .f32 0x00000000#32))⟩, ⟨S512x1024, x⟩] concatenates_S8x1024_S512x1024_S520x1024_d0

/-- The bias and the four taps' products. -/
def taps (e3 e0 e1 e2 : FVec Ideal S512x1024 .f32) (v6 v7 v13 v19 v25 : FVec Ideal S1x1024 .f32) : FVec Ideal S512x1024 .f32 :=
  addf (addf (addf (addf (broadcastTo S512x1024 v6 broadcasts_S1x1024_S512x1024)
    (mulf (broadcastTo S512x1024 v7 broadcasts_S1x1024_S512x1024) e3))
    (mulf (broadcastTo S512x1024 v13 broadcasts_S1x1024_S512x1024) e0))
    (mulf (broadcastTo S512x1024 v19 broadcasts_S1x1024_S512x1024) e1))
    (mulf (broadcastTo S512x1024 v25 broadcasts_S1x1024_S512x1024) e2)

theorem taps_at (e3 e0 e1 e2 : FVec Ideal S512x1024 .f32) (v6 v7 v13 v19 v25 : FVec Ideal S1x1024 .f32) (r : Fin 512) (q : Fin 1024) :
    taps e3 e0 e1 e2 v6 v7 v13 v19 v25 (ix2 r q) = v6 (ix2 (0 : Fin 1) q) + v7 (ix2 (0 : Fin 1) q) * e3 (ix2 r q)
      + v13 (ix2 (0 : Fin 1) q) * e0 (ix2 r q) + v19 (ix2 (0 : Fin 1) q) * e1 (ix2 r q) + v25 (ix2 (0 : Fin 1) q) * e2 (ix2 r q) := by
  pointwise [taps]

/-- The rows cut to the tile. -/
theorem unshifted (e : FVec Ideal S520x1024 .f32) (r : Fin 512) (q : Fin 1024) :
    extractStridedSlice S512x1024 ![8, 0] e slices_S520x1024_o8_0_S512x1024 (ix2 r q) = e (ix2 (⟨8 + r.val, by omega⟩ : Fin 520) q) := by
  pointwise []

/-- The rows shifted down by `s` and cut to the tile. -/
theorem shifted (X : FVec Ideal S520x1024 .f32) (k : BitVec 32) (s : ℕ) (hk : k.toNat = s) (hs : s ≤ 8) (r : Fin 512) (q : Fin 1024) :
    extractStridedSlice S512x1024 ![8, 0] (dynamicRotate 0 k none X rotates_S520x1024_d0) slices_S520x1024_o8_0_S512x1024 (ix2 r q)
      = X (ix2 (⟨8 + r.val - s, by omega⟩ : Fin 520) q) := by
  pointwise []
  rw [hk]
  have e : (⟨(8 + r.val + 520 - s % 520) % 520, Nat.mod_lt _ (by decide)⟩ : Fin 520) = ⟨8 + r.val - s, by omega⟩ := Fin.ext (by show (8 + r.val + 520 - s % 520) % 520 = 8 + r.val - s; omega)
  exact congrArg (fun z => X (ix2 z q)) e

/-- The choice of the rows before the tile. -/
theorem select_first (j : ℕ) (hj : j < 8) (x y : EReal) :
    Scalar.select (Scalar.cmpi .sgt (BitVec.ofNat 32 j) 0#32) x y = if j = 0 then y else x := by
  interval_cases j <;> rfl

/-- Row `a` of the extended tile is row `a - 5` from the tile's start of the padded array. -/
theorem ext_at (c : Dev nD) (t : Fin cfg0.N) (a : Fin 520) (ha : 5 ≤ a.val) (q : Fin 1024) :
    ext (grid0.coords t) (View.ld (iblk m c 1 t) r0_0) (View.ld (iblk m c 0 t) r0_1) (ix2 a q)
      = val_main_v3 (F := Ideal) (m ((c : Thread nD τ).loc main_arg0)) (ix2 (⟨t.val % 8 * 512 + (a.val - 5), by omega⟩ : Fin 4099) (col t q)) := by
  rcases Nat.lt_or_ge a.val 8 with h | h
  · pointwise [ext, val_main_v3, val_main_v2, val_main_cst, val_main_v0]
    rw [dif_pos h, coord, select_first _ (Nat.mod_lt _ (by decide))]
    by_cases h0 : t.val % 8 = 0
    · rw [if_pos h0, dif_pos (by omega)]
    · rw [if_neg h0, dif_neg (by omega)]
      blk_point [iblk, V, idx t, col]
  · pointwise [ext, val_main_v3, val_main_v2, val_main_cst, val_main_v0]
    rw [dif_neg (by omega), dif_neg (by omega)]
    blk_point [iblk, V, idx t, col]

/-- The filter's rows -/
theorem w_at (c : Dev nD) (t : Fin cfg0.N) (k : Fin 4) (q : Fin 1024) :
    iblk (F := Ideal) m c 2 t (ix2 k q) = m ((c : Thread nD τ).loc main_arg1) (ix2 k (col t q)) := by
  blk_point [iblk, V, idx t, col]

/-- and the bias. -/
theorem b_at (c : Dev nD) (t : Fin cfg0.N) (q : Fin 1024) :
    iblk (F := Ideal) m c 3 t (ix2 (0 : Fin 1) q) = m ((c : Thread nD τ).loc main_arg2) (ix2 (0 : Fin 1) (col t q)) := by
  blk_point [iblk, V, idx t, col]

/-- The kernel adds the bias and the last tap first. -/
theorem reorder (b x0 x1 x2 x3 : EReal) : b + x3 + x0 + x1 + x2 = x0 + x1 + x2 + x3 + b := by abel

/-- The slope of `x * s`, `s` the logistic of `x`: factored as by the kernel, and as the sum of two products. -/
theorem slope_eq (x : EReal) : Ideal.div 1 (1 + Ideal.exp (-x)) * (1 + x * (1 - Ideal.div 1 (1 + Ideal.exp (-x))))
    = Ideal.div 1 (1 + Ideal.exp (-x)) + x * (Ideal.div 1 (1 + Ideal.exp (-x)) * (1 - Ideal.div 1 (1 + Ideal.exp (-x)))) := by
  induction x with
  | bot =>
    have h : Ideal.div 1 (1 + Ideal.exp (-(⊥ : EReal))) = 0 := by
      rw [EReal.neg_bot, Ideal.exp_top, EReal.add_top_of_ne_bot (by decide)]
      simp [Ideal.div]
    rw [h]; simp
  | top =>
    have h : Ideal.div 1 (1 + Ideal.exp (-(⊤ : EReal))) = 1 := by
      rw [EReal.neg_top, Ideal.exp_bot, add_zero, ← EReal.coe_one, Ideal.div_coe one_ne_zero, div_one, EReal.coe_one, mul_one]
    rw [h]
    have h1 : (1 : EReal) - 1 = 0 := by rw [← EReal.coe_one, ← EReal.coe_sub, sub_self, EReal.coe_zero]
    rw [h1]; simp
  | coe g =>
    obtain ⟨s, hs⟩ := IsReal.logistic g
    rw [hs]
    norm_cast
    ring

/-- The convolution of a tile. -/
theorem pre_at (c : Dev nD) (t : Fin cfg0.N) (r : Fin 512) (q : Fin 1024) :
    k0_pay6 (F := Ideal) (grid0.coords t) (iblk m c 0 t) (iblk m c 1 t) (iblk m c 2 t) (iblk m c 3 t) (ix2 r q) = val_main_v35 (F := Ideal) (m ((c : Thread nD τ).loc main_arg0)) (m ((c : Thread nD τ).loc main_arg1)) (m ((c : Thread nD τ).loc main_arg2)) (ix2 (tok t r) (col t q)) := by
  have e : k0_pay6 (F := Ideal) (grid0.coords t) (iblk m c 0 t) (iblk m c 1 t) (iblk m c 2 t) (iblk m c 3 t) =
    taps (extractStridedSlice S512x1024 ![8, 0] (ext (grid0.coords t) (View.ld (iblk m c 1 t) r0_0) (View.ld (iblk m c 0 t) r0_1)) slices_S520x1024_o8_0_S512x1024)
    (extractStridedSlice S512x1024 ![8, 0] (dynamicRotate 0 3#32 none (ext (grid0.coords t) (View.ld (iblk m c 1 t) r0_0) (View.ld (iblk m c 0 t) r0_1)) rotates_S520x1024_d0) slices_S520x1024_o8_0_S512x1024)
    (extractStridedSlice S512x1024 ![8, 0] (dynamicRotate 0 2#32 none (ext (grid0.coords t) (View.ld (iblk m c 1 t) r0_0) (View.ld (iblk m c 0 t) r0_1)) rotates_S520x1024_d0) slices_S520x1024_o8_0_S512x1024)
    (extractStridedSlice S512x1024 ![8, 0] (dynamicRotate 0 1#32 none (ext (grid0.coords t) (View.ld (iblk m c 1 t) r0_0) (View.ld (iblk m c 0 t) r0_1)) rotates_S520x1024_d0) slices_S520x1024_o8_0_S512x1024)
    (View.ld (iblk m c 3 t) r0_2) (View.ld (iblk m c 2 t) r0_3) (View.ld (iblk m c 2 t) r0_4)
    (View.ld (iblk m c 2 t) r0_5) (View.ld (iblk m c 2 t) r0_6) := rfl
  rw [e]
  rw [taps_at, unshifted, shifted _ _ 3 rfl (by omega), shifted _ _ 2 rfl (by omega), shifted _ _ 1 rfl (by omega)]
  rw [ext_at m c t _ (by show 5 ≤ 8 + r.val; omega), ext_at m c t _ (by show 5 ≤ 8 + r.val - 3; omega), ext_at m c t _ (by show 5 ≤ 8 + r.val - 2; omega), ext_at m c t _ (by show 5 ≤ 8 + r.val - 1; omega)]
  pointwise [val_main_v35, val_main_v32, val_main_v25, val_main_v18, val_main_v11, val_main_v10, val_main_cst_0, val_main_v9, val_main_v8, val_main_v7, val_main_v5, val_main_v4, val_main_v6, val_main_v17, val_main_v16, val_main_v15, val_main_v13, val_main_v12, val_main_v14, val_main_v24, val_main_v23, val_main_v22, val_main_v20, val_main_v19, val_main_v21, val_main_v31, val_main_v30, val_main_v29, val_main_v27, val_main_v26, val_main_v28, val_main_v34, val_main_v33, val_main_v1]
  simp only [w_at, b_at]
  rw [show (⟨t.val % 8 * 512 + (8 + r.val - 5), by omega⟩ : Fin 4099) = ⟨3 + (tok t r).val, by have := (tok t r).isLt; omega⟩ from Fin.ext (by simp only [tok]; omega),
    show (⟨t.val % 8 * 512 + (8 + r.val - 3 - 5), by omega⟩ : Fin 4099) = ⟨(tok t r).val, by have := (tok t r).isLt; omega⟩ from Fin.ext (by simp only [tok]; omega),
    show (⟨t.val % 8 * 512 + (8 + r.val - 2 - 5), by omega⟩ : Fin 4099) = ⟨1 + (tok t r).val, by have := (tok t r).isLt; omega⟩ from Fin.ext (by simp only [tok]; omega),
    show (⟨t.val % 8 * 512 + (8 + r.val - 1 - 5), by omega⟩ : Fin 4099) = ⟨2 + (tok t r).val, by have := (tok t r).isLt; omega⟩ from Fin.ext (by simp only [tok]; omega)]
  exact reorder _ _ _ _ _

/-- The denominator of its logistic. -/
theorem den_at (c : Dev nD) (t : Fin cfg0.N) (r : Fin 512) (q : Fin 1024) :
    k0_pay7 (F := Ideal) (grid0.coords t) (iblk m c 0 t) (iblk m c 1 t) (iblk m c 2 t) (iblk m c 3 t) (ix2 r q) = val_main_call0_v3 (F := Ideal) (m ((c : Thread nD τ).loc main_arg0)) (m ((c : Thread nD τ).loc main_arg1)) (m ((c : Thread nD τ).loc main_arg2)) (ix2 (tok t r) (col t q)) := by
  have h := pre_at m c t r q
  pointwise [k0_pay7, k0_pay5, val_main_call0_v3, val_main_call0_v2, val_main_call0_cst, val_main_call0_v1, val_main_call0_v0]
  rw [zero_sub]
  exact congrArg (fun z => 1 + Ideal.exp (-z)) h

/-- The activation, from a value and its denominator. -/
theorem act_at (c : Dev nD) (t : Fin cfg0.N) (r : Fin 512) (q : Fin 1024) :
    k0_pay2 (F := Ideal) (k0_pay6 (grid0.coords t) (iblk m c 0 t) (iblk m c 1 t) (iblk m c 2 t) (iblk m c 3 t)) (k0_pay7 (grid0.coords t) (iblk m c 0 t) (iblk m c 1 t) (iblk m c 2 t) (iblk m c 3 t)) (Scalar.ofBits .f32 0x3F800000#32) (ix2 r q)
      = val_main_v37_0 (F := Ideal) (m ((c : Thread nD τ).loc main_arg0)) (m ((c : Thread nD τ).loc main_arg1)) (m ((c : Thread nD τ).loc main_arg2)) (ix2 (tok t r) (col t q)) := by
  pointwise [k0_pay2, k0_pay1, val_main_v37_0, val_main_call0_v5, val_main_call0_v4, val_main_call0_cst_0]
  rw [pre_at, den_at]

/-- The slope. -/
theorem slope_at (c : Dev nD) (t : Fin cfg0.N) (r : Fin 512) (q : Fin 1024) :
    k0_pay3 (F := Ideal) (k0_pay6 (grid0.coords t) (iblk m c 0 t) (iblk m c 1 t) (iblk m c 2 t) (iblk m c 3 t)) (k0_pay7 (grid0.coords t) (iblk m c 0 t) (iblk m c 1 t) (iblk m c 2 t) (iblk m c 3 t)) (Scalar.ofBits .f32 0x3F800000#32) (ix2 r q)
      = val_main_v38 (F := Ideal) (m ((c : Thread nD τ).loc main_arg0)) (m ((c : Thread nD τ).loc main_arg1)) (m ((c : Thread nD τ).loc main_arg2)) (ix2 (tok t r) (col t q)) := by
  pointwise [k0_pay3, k0_pay1, val_main_v38, val_main_v37_1, val_main_call0_v11, val_main_v36, val_main_cst_1, val_main_call0_v5, val_main_call0_v4, val_main_call0_cst_0, val_main_call0_v12, val_main_call0_v9, val_main_call0_v8, val_main_call0_v7, val_main_call0_v6, val_main_call0_cst_1]
  rw [pre_at, den_at]
  pointwise [val_main_call0_v3, val_main_call0_v2, val_main_call0_cst, val_main_call0_v1, val_main_call0_v0]
  exact slope_eq _

/-- The activation. -/
theorem final4 (c : Dev nD) : (dats m 0 c).arrAt 4 cfg0.N = val_main_v37_0 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  have e : ((cfg0.win 4).blk t).view.emb y = ix2 (tok t (y 0)) (col t (y 1)) := by blk_ext [idx t] <;> rfl
  rw [e, eq_ix2 y]
  exact act_at m c t (y 0) (y 1)

/-- Its slope. -/
theorem final5 (c : Dev nD) : (dats m 0 c).arrAt 5 cfg0.N = val_main_v38 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  have e : ((cfg0.win 5).blk t).view.emb y = ix2 (tok t (y 0)) (col t (y 1)) := by blk_ext [idx t] <;> rfl
  rw [e, eq_ix2 y]
  exact slope_at m c t (y 0) (y 1)

end Cert.ConvFwd

end
-- ==== Proof.ConvFwdClaim.lean ====
/- The convolution's forward: the runs of the idealized kernel and of the reference, and the claim that they hold the same arrays. -/
module

public import proofs.«01_k».proof.Defs
public import proofs.«01_k».proof.Proof.Gen.Kernel12Ideal.Frame
public import proofs.«01_k».proof.Proof.Gen.Reference12Ideal.Run
public import proofs.«01_k».proof.Proof.Gen.Reference12Ideal.Read
public import proofs.«01_k».proof.Proof.ConvFwd
public import Idealize.ShloMosaic.Adequacy
public import Idealize.ShloMosaic.Init

@[expose] public section

noncomputable section

namespace Cert.ConvFwd

open Idealize.ShloMosaic Idealize.SL.Sem Idealize.ShloMosaic.TcCoe

/-- The reference's frame. -/
theorem frameReference : Cert.quiescent_Reference12Ideal (hReference12Ideal := Cert.Reference12Ideal.Gen.facts) :=
  fun m g _ => (θ_run _ _ _).mono (fun _ h => ⟨fun c => (h c).2.2, sem_eq_zero_of_no_sems (by decide) _⟩)
    (Cert.Reference12Ideal.Value.run m g)

section
open Cert.Kernel12Ideal Cert.Kernel12Ideal.Gen Cert.Reference12Ideal.Read

/-- The idealized kernel's run: each result at the reference's function of the arguments, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = val_main_v37_0 (F := Ideal) (m ((c.tc : Thread nD τ).loc main_arg0)) (m ((c.tc : Thread nD τ).loc main_arg1)) (m ((c.tc : Thread nD τ).loc main_arg2))
      ∧ r.2.mem ((c.tc : Thread nD τ).loc main_v0_1) = val_main_v38 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 4).trans (final4 m c),
      ((h c).1 5).trans (final5 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩) (run_main m ρ)

end

attribute [local instance] Cert.Kernel12Ideal.Gen.facts Cert.Reference12Ideal.Gen.facts in
/-- The convolution's forward: kernel and reference hold the same arrays. -/
theorem agree : Cert.algebraic_Kernel12Ideal_Reference12Ideal := by
  intro m g m' g' _ hagree
  refine ⟨fun c => Cert.Reference12Ideal.Read.val_main_v37_0 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    fun c => Cert.Reference12Ideal.Read.val_main_v38 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    (θ_run _ _ _).mono (fun r h c => ?_) (kernelRun m g), (θ_run _ _ _).mono (fun r h c => ?_) (Cert.Reference12Ideal.Value.run m' g')⟩
  · exact h c
  · obtain ⟨h0, h1, hargs⟩ := h c
    obtain ⟨e0, e1, e2⟩ := hagree c
    refine ⟨h0.trans ?_, h1.trans ?_, hargs⟩
    · beta_reduce; rw [← e0, ← e1, ← e2]; exact Cert.Reference12Ideal.Read.val_main_v37_0_eq _ _
    · beta_reduce; rw [← e0, ← e1, ← e2]; exact Cert.Reference12Ideal.Read.val_main_v38_eq _ _

end Cert.ConvFwd

end
-- ==== Proof.MergeBlock.lean ====
/- What one grid point of the merge's backward computes at `Ideal`, read at an index of its blocks and set beside the
   reference's arrays at the row of tokens the block sits at. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen Cert.ReferenceIdeal.Read

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 10]
    ∧ win0_5.index t = ![t.val, 11]
    ∧ win0_6.index t = ![t.val, 0]
    ∧ win0_7.index t = ![t.val, 0]
    ∧ win0_8.index t = ![t.val, 0]
    ∧ win0_9.index t = ![t.val, 0]
    ∧ win0_10.index t = ![5, t.val, 0]
    ∧ win0_11.index t = ![0, 0]
    ∧ win0_12.index t = ![0, 0]
    ∧ t.val < 16 :=
  (by decide +kernel : ∀ t : Fin grid0.N, _)

/-- Row `r` of block `t` of the 4096 tokens. -/
abbrev tok (t : Fin cfg0.N) (r : Fin 256) : Fin 4096 := ⟨t.val * 256 + r.val, by have := (idx t).2.2.2.2.2.2.2.2.2.2.2.2.2; omega⟩

/-- The cotangent of the merged array: one block of `dh · w_oᵀ`. -/
theorem merged (c : Dev nD) (t : Fin cfg0.N) (r : Fin 256) (j : Fin 1024) :
    k0_pay5 (F := Ideal) (iblk m c 0 t) (iblk m c 1 t) (ix2 r j)
      = val_main_v32 (F := Ideal) (m ((c : Thread nD τ).loc main_arg0)) (m ((c : Thread nD τ).loc main_arg1)) (ix2 (tok t r) j) := by
  pointwise [k0_pay5, val_main_v32, val_main_v0, val_main_v1]
  blk_point [iblk, V, idx t]

/-- The gate of branch a, on one block. -/
theorem gate_a (c : Dev nD) (t : Fin cfg0.N) (r : Fin 256) (j : Fin 1024) :
    k0_pay6 (F := Ideal) (iblk m c 4 t) (ix2 r j) = val_main_v15 (F := Ideal) (m ((c : Thread nD τ).loc main_arg4)) (ix2 (tok t r) j) := by
  pointwise [k0_pay6, val_main_v15, val_main_v14, val_main_v13, val_main_v12, val_main_v11, val_main_v10, val_main_v6, val_main_cst,
    val_main_cst_0, zero_sub]
  blk_point [iblk, V, idx t]

/-- The gate of branch b, on one block. -/
theorem gate_b (c : Dev nD) (t : Fin cfg0.N) (r : Fin 256) (j : Fin 1024) :
    k0_pay7 (F := Ideal) (iblk m c 5 t) (ix2 r j) = val_main_v25 (F := Ideal) (m ((c : Thread nD τ).loc main_arg4)) (ix2 (tok t r) j) := by
  pointwise [k0_pay7, val_main_v25, val_main_v24, val_main_v23, val_main_v22, val_main_v21, val_main_v20, val_main_v7, val_main_cst_2,
    val_main_cst_3, zero_sub]
  blk_point [iblk, V, idx t]

/-- Branch a's projected output, computed before the launch: one block of `o_a · w_ba`. -/
theorem saved_a (c : Dev nD) (t : Fin cfg0.N) (r : Fin 256) (j : Fin 1024) :
    (iblk m c 2 t (ix2 r j) : EReal)
      = val_main_v8 (F := Ideal) (m ((c : Thread nD τ).loc main_arg2)) (m ((c : Thread nD τ).loc main_arg5)) (ix2 (tok t r) j) := by
  pointwise [val_main_v8, val_main_v4, val_main_v2]
  blk_simp [iblk]
  entry_read
  pointwise []
  blk_point [idx t]

/-- Branch b's projected output, computed before the launch: one block of `o_b · w_bb`. -/
theorem saved_b (c : Dev nD) (t : Fin cfg0.N) (r : Fin 256) (j : Fin 1024) :
    (iblk m c 3 t (ix2 r j) : EReal)
      = val_main_v9 (F := Ideal) (m ((c : Thread nD τ).loc main_arg3)) (m ((c : Thread nD τ).loc main_arg6)) (ix2 (tok t r) j) := by
  pointwise [val_main_v9, val_main_v5, val_main_v3]
  blk_simp [iblk]
  entry_read
  pointwise []
  blk_point [idx t]

/-- The cotangent of branch a's projected output, on one block. -/
theorem dya (c : Dev nD) (t : Fin cfg0.N) (r : Fin 256) (j : Fin 1024) :
    k0_pay8 (F := Ideal) (iblk m c 0 t) (iblk m c 1 t) (iblk m c 4 t) (ix2 r j)
      = val_main_v36 (F := Ideal) (m ((c : Thread nD τ).loc main_arg0)) (m ((c : Thread nD τ).loc main_arg1))
          (m ((c : Thread nD τ).loc main_arg4)) (ix2 (tok t r) j) := by
  pointwise [k0_pay8, val_main_v36, merged, gate_a]
  exact mul_comm _ _

/-- The cotangent of branch b's projected output, on one block. -/
theorem dyb (c : Dev nD) (t : Fin cfg0.N) (r : Fin 256) (j : Fin 1024) :
    k0_pay9 (F := Ideal) (iblk m c 0 t) (iblk m c 1 t) (iblk m c 5 t) (ix2 r j)
      = val_main_v33 (F := Ideal) (m ((c : Thread nD τ).loc main_arg0)) (m ((c : Thread nD τ).loc main_arg1))
          (m ((c : Thread nD τ).loc main_arg4)) (ix2 (tok t r) j) := by
  pointwise [k0_pay9, val_main_v33, merged, gate_b]
  exact mul_comm _ _

/-- The cotangent of gate a, on one block. -/
theorem dga (c : Dev nD) (t : Fin cfg0.N) (r : Fin 256) (j : Fin 1024) :
    k0_pay11 (F := Ideal) (k0_pay6 (F := Ideal) (iblk m c 4 t))
        (k0_pay10 (F := Ideal) (iblk m c 0 t) (iblk m c 1 t) (iblk m c 4 t) (iblk m c 2 t)) (ix3 0 r j)
      = val_main_v38 (F := Ideal) (m ((c : Thread nD τ).loc main_arg0)) (m ((c : Thread nD τ).loc main_arg1)) (m ((c : Thread nD τ).loc main_arg2))
          (m ((c : Thread nD τ).loc main_arg4)) (m ((c : Thread nD τ).loc main_arg5)) (ix2 (tok t r) j) := by
  pointwise [k0_pay11, k0_pay10, val_main_v38, val_main_v37, val_main_v18, val_main_v17, val_main_v16, val_main_cst_1, merged, gate_a, mul_assoc]
  exact congrArg (fun y : EReal => _ * (y * _)) (saved_a m c t r j)

/-- The cotangent of gate b, on one block. -/
theorem dgb (c : Dev nD) (t : Fin cfg0.N) (r : Fin 256) (j : Fin 1024) :
    k0_pay12 (F := Ideal) (k0_pay5 (F := Ideal) (iblk m c 0 t) (iblk m c 1 t)) (k0_pay7 (F := Ideal) (iblk m c 5 t)) (iblk m c 3 t) (ix3 0 r j)
      = val_main_v35 (F := Ideal) (m ((c : Thread nD τ).loc main_arg0)) (m ((c : Thread nD τ).loc main_arg1)) (m ((c : Thread nD τ).loc main_arg3))
          (m ((c : Thread nD τ).loc main_arg4)) (m ((c : Thread nD τ).loc main_arg6)) (ix2 (tok t r) j) := by
  pointwise [k0_pay12, val_main_v35, val_main_v34, val_main_v28, val_main_v27, val_main_v26, val_main_cst_4, merged, gate_b, mul_assoc]
  exact congrArg (fun y : EReal => _ * (y * _)) (saved_b m c t r j)

end Cert.Merge

end
-- ==== Proof.MergeArray.lean ====
/- What each result array of the merge's backward holds after the run: the reference's array of the same arguments. -/
module

public import proofs.«01_k».proof.Proof.MergeBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen Cert.ReferenceIdeal.Read

variable (m : (ℓ : Loc nD τ sig) → Buf (Elt Ideal) ℓ)

/-- The array of branch a's cotangent after the run: every point writes its own 256 rows of it. -/
theorem final8 (c : Dev nD) : (dats m 0 c).arrAt 8 (cfgs 0).N
    = val_main_v47 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have key : k0_pay8 (F := Ideal) (iblk m c 0 t) (iblk m c 1 t) (iblk m c 4 t) y
      = val_main_v47 (F := Ideal) (m ((c : Thread nD τ).loc main_arg0)) (m ((c : Thread nD τ).loc main_arg1))
          (m ((c : Thread nD τ).loc main_arg4)) (((cfg0.win 8).blk t).view.emb y) := by
    have e : ((cfg0.win 8).blk t).view.emb y = ix2 (tok t (y 0)) (y 1) := by blk_ext [idx t]
    rw [e, eq_ix2 y]
    exact dya m c t (y 0) (y 1)
  by_cases h0 : t.val % 16 = 0
  · rw [outsAt0_A m c t h0 (by omega)]; frame_out; exact key
  · by_cases h1 : t.val % 16 = 15
    · rw [outsAt0_C m c t h0 h1]; frame_out; exact key
    · rw [outsAt0_B m c t h0 h1]; frame_out; exact key

/-- The same for branch b. -/
theorem final9 (c : Dev nD) : (dats m 0 c).arrAt 9 (cfgs 0).N
    = val_main_v48 (F := Ideal) (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  have key : k0_pay9 (F := Ideal) (iblk m c 0 t) (iblk m c 1 t) (iblk m c 5 t) y
      = val_main_v48 (F := Ideal) (m ((c : Thread nD τ).loc main_arg0)) (m ((c : Thread nD τ).loc main_arg1))
          (m ((c : Thread nD τ).loc main_arg4)) (((cfg0.win 9).blk t).view.emb y) := by
    have e : ((cfg0.win 9).blk t).view.emb y = ix2 (tok t (y 0)) (y 1) := by blk_ext [idx t]
    rw [e, eq_ix2 y]
    exact dyb m c t (y 0) (y 1)
  by_cases h0 : t.val % 16 = 0
  · rw [outsAt0_A m c t h0 (by omega)]; frame_out; exact key
  · by_cases h1 : t.val % 16 = 15
    · rw [outsAt0_C m c t h0 h1]; frame_out; exact key
    · rw [outsAt0_B m c t h0 h1]; frame_out; exact key

/-- The reference's stacked cotangent at group 10: gate a's. -/
theorem stacked_a (x0 : FVec Ideal S4096x1024 .bf16) (x1 x2 : FVec Ideal S1024x1024 .bf16) (x3 : FVec Ideal S2048x1024 .bf16)
    (x4 : FVec Ideal S4096x12288 .f32) (x5 : FVec Ideal S4096x1024 .bf16) (x6 : FVec Ideal S4096x2048 .bf16)
    (g : Fin 12) (r : Fin 4096) (j : Fin 1024) (hg : (g : ℕ) = 10) :
    val_main_v49 (F := Ideal) x0 x1 x2 x3 x4 x5 x6 (ix3 g r j) = val_main_v38 (F := Ideal) x0 x1 x2 x4 x5 (ix2 r j) := by
  obtain rfl : g = 10 := Fin.ext hg
  pointwise [val_main_v49, val_main_v42, val_main_v40]

/-- The reference's stacked cotangent at group 11: gate b's. -/
theorem stacked_b (x0 : FVec Ideal S4096x1024 .bf16) (x1 x2 : FVec Ideal S1024x1024 .bf16) (x3 : FVec Ideal S2048x1024 .bf16)
    (x4 : FVec Ideal S4096x12288 .f32) (x5 : FVec Ideal S4096x1024 .bf16) (x6 : FVec Ideal S4096x2048 .bf16)
    (g : Fin 12) (r : Fin 4096) (j : Fin 1024) (hg : (g : ℕ) = 11) :
    val_main_v49 (F := Ideal) x0 x1 x2 x3 x4 x5 x6 (ix3 g r j) = val_main_v35 (F := Ideal) x0 x1 x3 x4 x6 (ix2 r j) := by
  obtain rfl : g = 11 := Fin.ext hg
  pointwise [val_main_v49, val_main_v42, val_main_v41]

/-- The two pieces every point stores, read at an index of its block. -/
theorem pieces (c : Dev nD) (t : Fin cfg0.N) (y : S2x256x1024.Idx) :
    View.canon
      [⟨Rect.unit ![1, 0, 0] ![1, 256, 1024] inb_S2x256x1024_S1x256x1024_1_0_0,
          k0_pay12 (F := Ideal) (k0_pay5 (iblk m c 0 t) (iblk m c 1 t)) (k0_pay7 (iblk m c 5 t)) (iblk m c 3 t)⟩,
        ⟨Rect.unit ![0, 0, 0] ![1, 256, 1024] inb_S2x256x1024_S1x256x1024_0_0_0,
          k0_pay11 (F := Ideal) (k0_pay6 (iblk m c 4 t)) (k0_pay10 (iblk m c 0 t) (iblk m c 1 t) (iblk m c 4 t) (iblk m c 2 t))⟩] y
      = val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (((cfg0.win 10).blk t).view.emb y) := by
  have e : ∀ h, ((cfg0.win 10).blk t).view.emb y = ix3 (⟨10 + (y 0).val, h⟩ : Fin 12) (tok t (y 1)) (y 2) := by
    intro h; blk_ext [idx t]
  rw [e (by have := (y 0).isLt; change _ < 2 at this; omega)]
  canon_tiles x h
  · have ex : x = ix3 0 (y 1) (y 2) := by blk_ext
    rw [ex]
    exact (dgb m c t (y 1) (y 2)).trans (stacked_b _ _ _ _ _ _ _ _ _ _ (by show 10 + (y 0).val = 11; omega)).symm
  · have ex : x = ix3 0 (y 1) (y 2) := by blk_ext
    rw [ex]
    exact (dga m c t (y 1) (y 2)).trans (stacked_a _ _ _ _ _ _ _ _ _ _ (by show 10 + (y 0).val = 10; omega)).symm

/-- The gates' cotangents: groups 10 and 11 of twelve groups of columns; the other groups are not written. -/
theorem final10 (c : Dev nD) : (dats m 0 c).arrAt 10 (cfgs 0).N
    = fun i => if 10 ≤ (i 0).val then val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) i else V m c main_v8_2 i := by
  refine (dats m 0 c).arrAt_eq_of_coversWhere 10 _ (fun β => 5 ≤ β (0 : Fin 3)) (by decide +kernel) (fun t hf y => ?_)
    (fun j => by blk_simp [Pipeline.Window.cell_apply]; omega)
  blk_simp
  rw [after0_10]
  by_cases h0 : t.val % 16 = 0
  · rw [outsAt0_A m c t h0 (by omega)]; frame_out; exact pieces m c t y
  · by_cases h1 : t.val % 16 = 15
    · rw [outsAt0_C m c t h0 h1]; frame_out; exact pieces m c t y
    · rw [outsAt0_B m c t h0 h1]; frame_out; exact pieces m c t y

/-- The zero fill of branch a's accumulator. -/
theorem zero_a (j : S1024x1024.Idx) : k0_pay3 (F := Ideal) j = 0 := by pointwise [k0_pay3]

/-- The zero fill of branch b's accumulator. -/
theorem zero_b (j : S2048x1024.Idx) : k0_pay4 (F := Ideal) j = 0 := by pointwise [k0_pay4]

/-- One step of branch a's accumulator: the block's outer product is added. -/
theorem step_a (d : FVec Ideal S256x1024 .bf16) (acc : Vec Ideal S1024x1024 .f32) (o : Vec Ideal S256x1024 .bf16) (j : S1024x1024.Idx) :
    k0_pay13 (F := Ideal) d acc o j = acc j + ∑ k : Fin 256, o (ix2 k (j 0)) * d (ix2 k (j 1)) := by
  pointwise [k0_pay13]

/-- One step of branch b's accumulator. -/
theorem step_b (d : FVec Ideal S256x1024 .bf16) (acc : Vec Ideal S2048x1024 .f32) (o : Vec Ideal S256x2048 .bf16) (j : S2048x1024.Idx) :
    k0_pay14 (F := Ideal) d acc o j = acc j + ∑ k : Fin 256, o (ix2 k (j 0)) * d (ix2 k (j 1)) := by
  pointwise [k0_pay14]

/-- Branch a's accumulator after the last point is the weight gradient `o_aᵀ · d_y_a` over all rows. -/
theorem acc_a (c : Dev nD) (t : Fin cfg0.N) (ht : t.val % 16 = 15) (j : S1024x1024.Idx) :
    ((outsAt0 m c t.val t.isLt).2.2.2.2.2.1 j : EReal)
      = val_main_v50 (F := Ideal) (m ((c : Thread nD τ).loc main_arg0)) (m ((c : Thread nD τ).loc main_arg1))
          (m ((c : Thread nD τ).loc main_arg4)) (m ((c : Thread nD τ).loc main_arg5)) j := by
  rw [Pipeline.eq_sum_fin_of_reset_step_apply_of_flush (fun n h => (outsAt0 m c n h).2.2.2.2.2.1) 16 (fun _ => 0) _
    (fun t h j => by rw [outsAt0_A m c t h (by omega)]; frame_out; rw [step_a, zero_a])
    (fun t h j => by
      by_cases h1 : t.val % 16 = 15
      · rw [outsAt0_C m c t h h1]; frame_out; simp only [read_unread_whole]; rw [step_a]
      · rw [outsAt0_B m c t h h1]; frame_out; simp only [read_unread_whole]; rw [step_a])
    t ht j, zero_add]
  pointwise [val_main_v50, val_main_v44, val_main_v43, val_main_v4]
  refine Fin.sum_mul_add_congr fun s k hl => ?_
  have hp : 16 * (t.val / 16) + s.val = s.val := by have := (idx t).2.2.2.2.2.2.2.2.2.2.2.2.2; omega
  have hN := Pipeline.run_point_lt_of_flush t ht s
  refine (Ideal.mul_congr rfl (dya m c ⟨_, hN⟩ k (j 1))).trans ((mul_comm (G := EReal) _ _).trans ?_)
  blk_point [iblk, V, idx ⟨_, hN⟩]

/-- At the last point the result is the accumulator's contents. -/
theorem last_a (c : Dev nD) (t : Fin cfg0.N) (ht : t.val % 16 = 15) (j : S1024x1024.Idx) :
    ((outsAt0 m c t.val t.isLt).2.2.2.1 j : EReal) = (outsAt0 m c t.val t.isLt).2.2.2.2.2.1 j := by
  rw [outsAt0_C m c t (by omega) ht]
  frame_out
  pointwise [k0_pay1]

/-- The weight gradient of branch a after the run. -/
theorem final11 (c : Dev nD) : (dats m 0 c).arrAt 11 (cfgs 0).N
    = val_main_v50 (F := Ideal) (m ((c : Thread nD τ).loc main_arg0)) (m ((c : Thread nD τ).loc main_arg1))
          (m ((c : Thread nD τ).loc main_arg4)) (m ((c : Thread nD τ).loc main_arg5)) := by
  refine (dats m 0 c).arrAt_eq_of_covers 11 _ (by decide +kernel) fun t hf y => ?_
  blk_simp
  rw [after0_11]
  have e : ((cfg0.win 11).blk t).view.emb y = y := by blk_ext [idx t]
  exact ((last_a m c t ((flush0_11 t).mp hf) y).trans (acc_a m c t ((flush0_11 t).mp hf) y)).trans (congrArg _ e.symm)

/-- Branch b's accumulator after the last point is the weight gradient `o_bᵀ · d_y_b` over all rows. -/
theorem acc_b (c : Dev nD) (t : Fin cfg0.N) (ht : t.val % 16 = 15) (j : S2048x1024.Idx) :
    ((outsAt0 m c t.val t.isLt).2.2.2.2.2.2 j : EReal)
      = val_main_v51 (F := Ideal) (m ((c : Thread nD τ).loc main_arg0)) (m ((c : Thread nD τ).loc main_arg1))
          (m ((c : Thread nD τ).loc main_arg4)) (m ((c : Thread nD τ).loc main_arg6)) j := by
  rw [Pipeline.eq_sum_fin_of_reset_step_apply_of_flush (fun n h => (outsAt0 m c n h).2.2.2.2.2.2) 16 (fun _ => 0) _
    (fun t h j => by rw [outsAt0_A m c t h (by omega)]; frame_out; rw [step_b, zero_b])
    (fun t h j => by
      by_cases h1 : t.val % 16 = 15
      · rw [outsAt0_C m c t h h1]; frame_out; simp only [read_unread_whole]; rw [step_b]
      · rw [outsAt0_B m c t h h1]; frame_out; simp only [read_unread_whole]; rw [step_b])
    t ht j, zero_add]
  pointwise [val_main_v51, val_main_v46, val_main_v45, val_main_v5]
  refine Fin.sum_mul_add_congr fun s k hl => ?_
  have hp : 16 * (t.val / 16) + s.val = s.val := by have := (idx t).2.2.2.2.2.2.2.2.2.2.2.2.2; omega
  have hN := Pipeline.run_point_lt_of_flush t ht s
  refine (Ideal.mul_congr rfl (dyb m c ⟨_, hN⟩ k (j 1))).trans ((mul_comm (G := EReal) _ _).trans ?_)
  blk_point [iblk, V, idx ⟨_, hN⟩]

/-- At the last point the result is the accumulator's contents. -/
theorem last_b (c : Dev nD) (t : Fin cfg0.N) (ht : t.val % 16 = 15) (j : S2048x1024.Idx) :
    ((outsAt0 m c t.val t.isLt).2.2.2.2.1 j : EReal) = (outsAt0 m c t.val t.isLt).2.2.2.2.2.2 j := by
  rw [outsAt0_C m c t (by omega) ht]
  frame_out
  pointwise [k0_pay2]

/-- The weight gradient of branch b after the run. -/
theorem final12 (c : Dev nD) : (dats m 0 c).arrAt 12 (cfgs 0).N
    = val_main_v51 (F := Ideal) (m ((c : Thread nD τ).loc main_arg0)) (m ((c : Thread nD τ).loc main_arg1))
          (m ((c : Thread nD τ).loc main_arg4)) (m ((c : Thread nD τ).loc main_arg6)) := by
  refine (dats m 0 c).arrAt_eq_of_covers 12 _ (by decide +kernel) fun t hf y => ?_
  blk_simp
  rw [after0_12]
  have e : ((cfg0.win 12).blk t).view.emb y = y := by blk_ext [idx t]
  exact ((last_b m c t ((flush0_12 t).mp hf) y).trans (acc_b m c t ((flush0_12 t).mp hf) y)).trans (congrArg _ e.symm)

end Cert.Merge

end
-- ==== Proof.lean ====
/- The proof of the claims: the kernel's and its idealization's frames, and that the kernel's and the reference's results
   are equal over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.GradInProjClaim
public import proofs.«01_k».proof.Proof.GradFfnInClaim
public import proofs.«01_k».proof.Proof.GradFfnDownClaim
public import proofs.«01_k».proof.Proof.FfnInActClaim
public import proofs.«01_k».proof.Proof.FfnActBwdClaim
public import proofs.«01_k».proof.Proof.MixerTailClaim
public import proofs.«01_k».proof.Proof.MixerTailBwdClaim
public import proofs.«01_k».proof.Proof.FfnTailClaim
public import proofs.«01_k».proof.Proof.ModulateBwdClaim
public import proofs.«01_k».proof.Proof.ConvBwdClaim
public import proofs.«01_k».proof.Proof.ConvFwdClaim
public import proofs.«01_k».proof.Proof.MergeArray
public import Idealize.ShloMosaic.Adequacy
public import Idealize.ShloMosaic.Init

@[expose] public section

noncomputable section

namespace Cert.Proof

open Idealize.ShloMosaic Idealize.SL.Sem Idealize.ShloMosaic.TcCoe

/-- The side conditions of the mask that says where results are compared. -/
theorem maskFacts : Cert.On_gate_columns.Facts := by
  constructor <;> decide

attribute [local instance] maskFacts in
/-- Of the third result the mask keeps the gates' two groups. -/
theorem mask_gates (x0 x1 x2 x3 x4 x5 x6) (i : (⟨3, ![12, 4096, 1024]⟩ : Shape).Idx)
    (h : (Cert.On_gate_columns.fn (F := Ideal) x0 x1 x2 x3 x4 x5 x6).2.2.1 i = 1#1) : 10 ≤ (i 0).val := by
  have h' : IntOp.cmpi .sge (BitVec.ofNat 32 (i 0).val) 10#32 = 1#1 := h
  have hi : (i 0).val < 12 := (i 0).isLt
  have all : ∀ k : Fin 12, IntOp.cmpi .sge (BitVec.ofNat 32 k.val) 10#32 = 1#1 → 10 ≤ k.val := by decide
  exact all ⟨(i 0).val, hi⟩ h'

/-- The reference's frame. -/
theorem frameReference : Cert.quiescent_ReferenceIdeal (hReferenceIdeal := Cert.ReferenceIdeal.Gen.facts) :=
  fun m g _ => (θ_run _ _ _).mono (fun _ h => ⟨fun c => (h c).2.2.2.2.2, sem_eq_zero_of_no_sems (by decide) _⟩)
    (Cert.ReferenceIdeal.Value.run m g)

section
open Cert.Merge Cert.KernelIdeal Cert.KernelIdeal.Gen Cert.ReferenceIdeal.Read

/-- The idealized kernel's run: each result at the reference's function of the arguments, the third in the gates' two
    groups, and the arguments unchanged. -/
theorem kernelRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8_0) = val_main_v47 (F := Ideal) (m ((c.tc : Thread nD τ).loc main_arg0)) (m ((c.tc : Thread nD τ).loc main_arg1)) (m ((c.tc : Thread nD τ).loc main_arg4))
      ∧ r.2.mem ((c.tc : Thread nD τ).loc main_v8_1) = val_main_v48 (F := Ideal) (m ((c.tc : Thread nD τ).loc main_arg0)) (m ((c.tc : Thread nD τ).loc main_arg1)) (m ((c.tc : Thread nD τ).loc main_arg4))
      ∧ (∀ i : S12x4096x1024.Idx, 10 ≤ (i 0).val → r.2.mem ((c.tc : Thread nD τ).loc main_v8_2) i = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v8_3) = val_main_v50 (F := Ideal) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v8_4) = val_main_v51 (F := Ideal) (m ((c.tc : Thread nD τ).loc main_arg0)) (m ((c.tc : Thread nD τ).loc main_arg1)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 8).trans (final8 m c), ((h c).1 9).trans (final9 m c),
      fun i hi => (congrFun ((h c).1 10) i).trans ((congrFun (final10 m c) i).trans (if_pos hi)),
      ((h c).1 11).trans (final11 m c), ((h c).1 12).trans (final12 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩) (run_main m ρ)

end

attribute [local instance] Cert.KernelIdeal.Gen.facts Cert.ReferenceIdeal.Gen.facts maskFacts in
/-- The merge's backward: kernel and reference hold the same arrays where the mask is set. -/
theorem merge : Cert.algebraic_KernelIdeal_ReferenceIdeal_on_gate_columns := by
  intro m g m' g' _ hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)),
    (θ_run _ _ _).mono (fun r h c => ?_) (kernelRun m g), (θ_run _ _ _).mono (fun r h c => ?_) (Cert.ReferenceIdeal.Value.run m' g')⟩
  · obtain ⟨h0, h1, h2, h3, h4, hargs⟩ := h c
    exact ⟨fun i _ => congrFun h0 i, fun i _ => congrFun h1 i, fun i hi => h2 i (mask_gates _ _ _ _ _ _ _ i hi),
      fun i _ => congrFun h3 i, fun i _ => congrFun h4 i, hargs⟩
  · obtain ⟨h0, h1, h2, h3, h4, hargs⟩ := h c
    obtain ⟨e0, e1, e2, e3, e4, e5, e6⟩ := hagree c
    refine ⟨fun i _ => congrFun (h0.trans ?_) i, fun i _ => congrFun (h1.trans ?_) i, fun i _ => congrFun (h2.trans ?_) i,
      fun i _ => congrFun (h3.trans ?_) i, fun i _ => congrFun (h4.trans ?_) i, hargs⟩
    · rw [← e0, ← e1, ← e4]; exact (Cert.ReferenceIdeal.Read.val_main_v47_eq _ _ _)
    · rw [← e0, ← e1, ← e4]; exact (Cert.ReferenceIdeal.Read.val_main_v48_eq _ _ _)
    · rw [← e0, ← e1, ← e2, ← e3, ← e4, ← e5, ← e6]; exact (Cert.ReferenceIdeal.Read.val_main_v49_eq _ _ _ _ _ _ _)
    · rw [← e0, ← e1, ← e4, ← e5]; exact (Cert.ReferenceIdeal.Read.val_main_v50_eq _ _ _ _)
    · rw [← e0, ← e1, ← e4, ← e6]; exact (Cert.ReferenceIdeal.Read.val_main_v51_eq _ _ _ _)

/-- Every claim of every program. -/
theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, FfnActBwd.ffnActBwdFacts, MixerTailBwd.mixerTailBwdFacts, FfnTail.ffnTailFacts,
  ModulateBwd.modulateBwdFacts, maskFacts, fun m ρ _ => Cert.Kernel.Gen.frame m ρ,
  fun m ρ _ => Cert.KernelIdeal.Gen.frame m ρ, frameReference, fun m ρ _ => Cert.Kernel2.Gen.frame m ρ,
  fun m ρ _ => Cert.Kernel2Ideal.Gen.frame m ρ, GradInProj.frameReference, fun m ρ _ => Cert.Kernel3.Gen.frame m ρ,
  fun m ρ _ => Cert.Kernel3Ideal.Gen.frame m ρ, GradFfnIn.frameReference, fun m ρ _ => Cert.Kernel4.Gen.frame m ρ,
  fun m ρ _ => Cert.Kernel4Ideal.Gen.frame m ρ, GradFfnDown.frameReference, fun m ρ _ => Cert.Kernel5.Gen.frame m ρ,
  fun m ρ _ => Cert.Kernel5Ideal.Gen.frame m ρ, FfnInAct.frameReference, fun m ρ _ => Cert.Kernel6.Gen.frame m ρ,
  fun m ρ _ => Cert.Kernel6.Gen.frame m ρ, fun m ρ _ => Cert.Kernel6Ideal.Gen.frame m ρ, FfnActBwd.frameReference,
  fun m ρ _ => FfnActBwd.frameReference m ρ ⟨⟩, fun m ρ _ => Cert.Kernel7.Gen.frame m ρ,
  fun m ρ _ => Cert.Kernel7Ideal.Gen.frame m ρ, MixerTail.frameReference, fun m ρ _ => Cert.Kernel8.Gen.frame m ρ,
  fun m ρ _ => Cert.Kernel8.Gen.frame m ρ, fun m ρ _ => Cert.Kernel8Ideal.Gen.frame m ρ, MixerTailBwd.frameReference,
  fun m ρ _ => MixerTailBwd.frameReference m ρ ⟨⟩, fun m ρ _ => Cert.Kernel9.Gen.frame m ρ,
  fun m ρ _ => Cert.Kernel9.Gen.frame m ρ, fun m ρ _ => Cert.Kernel9Ideal.Gen.frame m ρ, FfnTail.frameReference,
  fun m ρ _ => FfnTail.frameReference m ρ ⟨⟩, fun m ρ _ => Cert.Kernel10.Gen.frame m ρ,
  fun m ρ _ => Cert.Kernel10.Gen.frame m ρ, fun m ρ _ => Cert.Kernel10Ideal.Gen.frame m ρ, ModulateBwd.frameReference,
  fun m ρ _ => ModulateBwd.frameReference m ρ ⟨⟩, fun m ρ _ => Cert.Kernel11.Gen.frame m ρ,
  fun m ρ _ => Cert.Kernel11Ideal.Gen.frame m ρ, ConvBwd.frameReference, fun m ρ _ => Cert.Kernel12.Gen.frame m ρ,
  fun m ρ _ => Cert.Kernel12Ideal.Gen.frame m ρ, ConvFwd.frameReference, trivial, merge, trivial, GradInProj.agree,
  trivial, GradFfnIn.agree, trivial, GradFfnDown.agree, trivial, FfnInAct.agree, trivial, FfnActBwd.agree, trivial,
  MixerTail.agree, trivial, MixerTailBwd.agree, trivial, FfnTail.agree, trivial, ModulateBwd.agree, trivial,
  ConvBwd.agree, trivial,
  ConvFwd.agree⟩

end Cert.Proof

end
